-- ==== Defs.lean ====
def Pre_Kernel [hPre_rows_sorted : Cert.Pre_rows_sorted.Facts] (m : (ℓ : Loc Cert.Kernel.nD Cert.Kernel.τ Cert.Kernel.sig) → Buf (Elt Bits) ℓ) : Prop :=
  ∀ c : Dev Cert.Kernel.nD,
    (Cert.Pre_rows_sorted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_rows_sorted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 = (fun _ => 1#1)
    ∧ (Cert.Pre_rows_sorted.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 = (fun _ => 1#1)

def Pre_KernelIdeal [hPre_rows_sorted : Cert.Pre_rows_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_rows_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_rows_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_rows_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_sorted [hPre_rows_sorted : Cert.Pre_rows_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_rows_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_rows_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] [hPre_rows_sorted : Cert.Pre_rows_sorted.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_rows_sorted : Cert.Pre_rows_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_sorted [hReferenceIdeal : Cert.ReferenceIdeal.Facts] [hPre_rows_sorted : Cert.Pre_rows_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_sorted : Cert.Pre_rows_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_sorted : Cert.Pre_rows_sorted.Facts),
    quiescent_Kernel (hKernel := hKernel) (hPre_rows_sorted := hPre_rows_sorted)
    ∧ quiescent_KernelIdeal (hKernelIdeal := hKernelIdeal) (hPre_rows_sorted := hPre_rows_sorted)
    ∧ quiescent_ReferenceIdeal (hReferenceIdeal := hReferenceIdeal)
    ∧ quiescent_ReferenceIdeal_pre_rows_sorted (hReferenceIdeal := hReferenceIdeal) (hPre_rows_sorted := hPre_rows_sorted)
    ∧ preserves_Kernel_KernelIdeal
    ∧ algebraic_KernelIdeal_ReferenceIdeal (hKernelIdeal := hKernelIdeal) (hReferenceIdeal := hReferenceIdeal) (hPre_rows_sorted := hPre_rows_sorted)
-- ==== Pre_rows_sorted.lean ====
abbrev S24x2048 : Shape := ⟨2, ![24, 2048]⟩
abbrev S24x2 : Shape := ⟨2, ![24, 2]⟩
abbrev S24 : Shape := ⟨1, ![24]⟩
abbrev S24x1 : Shape := ⟨2, ![24, 1]⟩
abbrev S_ : Shape := ⟨0, ![]⟩
abbrev S24x2047 : Shape := ⟨2, ![24, 2047]⟩

class Facts : Prop where
  bcast_S24_S24x1_0 : S24.BroadcastsInDim S24x1 (![0] : Fin 1 → Fin S24x1.rank)
  bcast_S24x1_S24x2048_0_1 : S24x1.BroadcastsInDim S24x2048 (![0, 1] : Fin 2 → Fin S24x2048.rank)
  bcast_S_S24 : S_.BroadcastsInDim S24 (![] : Fin 0 → Fin S24.rank)
  bcast_S_S24x2048 : S_.BroadcastsInDim S24x2048 (![] : Fin 0 → Fin S24x2048.rank)
  slices_S24x2048_S24x2047_0_1 : S24x2048.Slices ![0, 1] S24x2047
  slices_S24x2048_S24x2047_0_0 : S24x2048.Slices ![0, 0] S24x2047

variable [Facts]

def fn {F : FTy → Type} [FloatOps F] (main_arg0 : IVec S24x2048 32) (main_arg1 : FVec F S24x2048 .fp8e5m2) (main_arg2 : FVec F S24x2 .f32) (main_arg3 : IVec S24 32) : IVec S24 1 × IVec S24x2048 1 × IVec S24x2047 1 :=
  let main_v0 : IVec S24x2048 32 := iotaInDim S24x2048 32 1
  let main_v1 : IVec S24x1 32 := broadcastInDim S24x1 ![0] bcast_S24_S24x1_0 main_arg3
  let main_v2 : IVec S24x2048 32 := broadcastInDim S24x2048 ![0, 1] bcast_S24x1_S24x2048_0_1 main_v1
  let main_v3 : IVec S24x2048 1 := cmpi .sge main_v0 main_v2
  let main_c : IVec S_ 32 := constantI S_ 32 2048#32
  let main_v4 : IVec S24 32 := broadcastInDim S24 ![] bcast_S_S24 main_c
  let main_v5 : IVec S24 1 := cmpi .sle main_arg3 main_v4
  let main_c_0 : IVec S_ 32 := constantI S_ 32 0#32
  let main_v6 : IVec S24x2048 32 := broadcastInDim S24x2048 ![] bcast_S_S24x2048 main_c_0
  let main_v7 : IVec S24x2048 1 := cmpi .sge main_arg0 main_v6
  let main_v8 : IVec S24x2048 1 := ori main_v3 main_v7
  let main_v9 : IVec S24x2047 1 := (extractStridedSlice S24x2047 ![0, 1] · slices_S24x2048_S24x2047_0_1) main_v3
  let main_v10 : IVec S24x2047 32 := (extractStridedSlice S24x2047 ![0, 0] · slices_S24x2048_S24x2047_0_0) main_arg0
  let main_v11 : IVec S24x2047 32 := (extractStridedSlice S24x2047 ![0, 1] · slices_S24x2048_S24x2047_0_1) main_arg0
  let main_v12 : IVec S24x2047 1 := cmpi .sle main_v10 main_v11
  let main_v13 : IVec S24x2047 1 := ori main_v9 main_v12
  (main_v5, main_v8, main_v13)
-- ==== Kernel.lean ====
abbrev S24x2048 : Shape := ⟨2, ![24, 2048]⟩
abbrev S24x2 : Shape := ⟨2, ![24, 2]⟩
abbrev S24 : Shape := ⟨1, ![24]⟩
abbrev S24x1024 : Shape := ⟨2, ![24, 1024]⟩
abbrev S24x1 : Shape := ⟨2, ![24, 1]⟩
abbrev S6144x3584 : Shape := ⟨2, ![6144, 3584]⟩
abbrev S64x3584 : Shape := ⟨2, ![64, 3584]⟩
abbrev S1792x128 : Shape := ⟨2, ![1792, 128]⟩
abbrev S1 : Shape := ⟨1, ![1]⟩
abbrev S1x128 : Shape := ⟨2, ![1, 128]⟩
abbrev S1x1 : Shape := ⟨2, ![1, 1]⟩
abbrev S64x128 : Shape := ⟨2, ![64, 128]⟩

abbrev nBuf : Space → Nat
  | .hbm => 6
  | .vmem => 6
  | .smem => 4
  | _ => 0

abbrev bufTy : (tb : Table) → Fin (tcTables nBuf tb) → BufTy
  | .hbm, ⟨0, _⟩ => ⟨S24x2048, .i32⟩
  | .hbm, ⟨1, _⟩ => ⟨S24x2048, .fp8e5m2⟩
  | .hbm, ⟨2, _⟩ => ⟨S24x2, .f32⟩
  | .hbm, ⟨3, _⟩ => ⟨S24, .i32⟩
  | .hbm, ⟨4, _⟩ => ⟨S24x2048, .f32⟩
  | .hbm, ⟨5, _⟩ => ⟨S6144x3584, .bf16⟩
  | .local _ .vmem, ⟨0, _⟩ => ⟨S24x2048, .fp8e5m2⟩
  | .local _ .vmem, ⟨1, _⟩ => ⟨S24x2, .f32⟩
  | .local _ .vmem, ⟨2, _⟩ => ⟨S24x2048, .f32⟩
  | .local _ .vmem, ⟨3, _⟩ => ⟨S64x3584, .bf16⟩
  | .local _ .vmem, ⟨4, _⟩ => ⟨S64x3584, .bf16⟩
  | .local _ .vmem, ⟨5, _⟩ => ⟨S1792x128, .f32⟩
  | .local _ .smem, ⟨0, _⟩ => ⟨S24, .i32⟩
  | .local _ .smem, ⟨1, _⟩ => ⟨S24x2048, .i32⟩
  | .local _ .smem, ⟨2, _⟩ => ⟨S24x2048, .f32⟩
  | .local _ .smem, ⟨3, _⟩ => ⟨S24, .i32⟩
  | _, _ => ⟨S24x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_scratch0 : Ref sig .tc := ⟨.vmem, 5, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc1_scratch1 : Ref sig .tc := ⟨.smem, 3, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem3_1 : DmaSem sig := 7

abbrev nD : Nat := 1
abbrev τ : Topo := Topo.v7x

variable {F : FTy → Type} [FloatOps F]

abbrev grid0 : Pipeline.Grid := .none

abbrev stage0_0 : Fin 1 → Memref sig .tc .vmem S24x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![96], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_91 : BitVec 32 := 0#32
  let c24_i32_92 : BitVec 32 := 24#32
  let v152 : BitVec 32 := Scalar.addi c0_i32_91 c24_i32_92
  let c1_i32_93 : BitVec 32 := 1#32
  ⟨c0_i32_91, v152, c1_i32_93⟩
def k1_off1 (k1_t1 : Fin k1_t1_loop.trips) : Fin 1 → Nat :=
  let c0_i32_96 : BitVec 32 := 0#32
  let c0_i32_91 : BitVec 32 := 0#32
  let c1_i32_93 : BitVec 32 := 1#32
  let arg7 : BitVec 32 := Scf.iv c0_i32_91 c1_i32_93 k1_t1
  let c1_i32_95 : BitVec 32 := 1#32
  let v153 : BitVec 32 := Scalar.muli arg7 c1_i32_95
  let v154 : BitVec 32 := Scalar.addi c0_i32_96 v153
  let v155 : Index := Scalar.indexCast v154
  ![v155.toNat]
@[reducible] def k1_t2_loop : Scf.Loop 32 :=
  let c0_i32_2 : BitVec 32 := 0#32
  let c24_i32 : BitVec 32 := 24#32
  let v11 : BitVec 32 := Scalar.addi c0_i32_2 c24_i32
  let c1_i32_3 : BitVec 32 := 1#32
  ⟨c0_i32_2, v11, c1_i32_3⟩
def k1_off2 (k1_t2 : Fin k1_t2_loop.trips) : Fin 1 → Nat :=
  let c0_i32_92 : BitVec 32 := 0#32
  let c0_i32_2 : BitVec 32 := 0#32
  let c1_i32_3 : BitVec 32 := 1#32
  let arg7 : BitVec 32 := Scf.iv c0_i32_2 c1_i32_3 k1_t2
  let c1_i32_91 : BitVec 32 := 1#32
  let v152 : BitVec 32 := Scalar.muli arg7 c1_i32_91
  let v153 : BitVec 32 := Scalar.addi c0_i32_92 v152
  let v154 : Index := Scalar.indexCast v153
  ![v154.toNat]
def k1_off3 (k1_t2 : Fin k1_t2_loop.trips) (arg8 : BitVec 32) : Fin 2 → Nat :=
  let c0_i32_92 : BitVec 32 := 0#32
  let c0_i32_2 : BitVec 32 := 0#32
  let c1_i32_3 : BitVec 32 := 1#32
  let arg7 : BitVec 32 := Scf.iv c0_i32_2 c1_i32_3 k1_t2
  let c1_i32_91 : BitVec 32 := 1#32
  let v152 : BitVec 32 := Scalar.muli arg7 c1_i32_91
  let v153 : BitVec 32 := Scalar.addi c0_i32_92 v152
  let v163 : Index := Scalar.indexCast v153
  let c2047_i32 : BitVec 32 := 2047#32
  let v161 : BitVec 32 := Scalar.minsi arg8 c2047_i32
  let v164 : Index := Scalar.indexCast v161
  ![v163.toNat, v164.toNat]

def k1_chk1 (k1_t2 : Fin k1_t2_loop.trips) (arg8 : BitVec 32) : Prop :=
  (∀ a, (k1_off3 k1_t2 arg8) a + S1x1.size a ≤ S24x2048.size a)
theorem k1_off3_inb : ∀ (k1_t2 : Fin k1_t2_loop.trips) (arg8 : BitVec 32) (k1_hw1 : k1_chk1 k1_t2 arg8), ∀ a, (k1_off3 k1_t2 arg8) a + S1x1.size a ≤ S24x2048.size a := fun k1_t2 arg8 k1_hw1 => k1_hw1

def k1_off4 (k1_t2 : Fin k1_t2_loop.trips) (arg8 : BitVec 32) : Fin 2 → Nat :=
  let c0_i32_92 : BitVec 32 := 0#32
  let c0_i32_2 : BitVec 32 := 0#32
  let c1_i32_3 : BitVec 32 := 1#32
  let arg7 : BitVec 32 := Scf.iv c0_i32_2 c1_i32_3 k1_t2
  let c1_i32_91 : BitVec 32 := 1#32
  let v152 : BitVec 32 := Scalar.muli arg7 c1_i32_91
  let v153 : BitVec 32 := Scalar.addi c0_i32_92 v152
  let v161 : Index := Scalar.indexCast v153
  let v162 : Index := Scalar.indexCast arg8
  ![v161.toNat, v162.toNat]

def k1_chk2 (k1_t2 : Fin k1_t2_loop.trips) (arg8 : BitVec 32) : Prop :=
  (∀ a, (k1_off4 k1_t2 arg8) a + S1x1.size a ≤ S24x2048.size a)
theorem k1_off4_inb : ∀ (k1_t2 : Fin k1_t2_loop.trips) (arg8 : BitVec 32) (k1_hw2 : k1_chk2 k1_t2 arg8), ∀ a, (k1_off4 k1_t2 arg8) a + S1x1.size a ≤ S24x2048.size a := fun k1_t2 arg8 k1_hw2 => k1_hw2

def k1_off5 (i : grid1.Coords) (v163 : BitVec 32) : Fin 2 → Nat :=
  let c7_i32 : BitVec 32 := 7#32
  let v167 : BitVec 32 := Scalar.shrui v163 c7_i32
  let arg0 : BitVec 32 := BitVec.ofNat 32 (i 0).val
  let c1792_i32 : BitVec 32 := 1792#32
  let v3 : BitVec 32 := Scalar.muli arg0 c1792_i32
  let v168 : BitVec 32 := Scalar.subi v167 v3
  let v169 : Index := Scalar.indexCast v168
  let c0_93 : Index := 0#32
  ![v169.toNat, 0]

def k1_chk3 (i : grid1.Coords) (v163 : BitVec 32) : Prop :=
  (∀ a, (k1_off5 i v163) a + S1x128.size a ≤ S1792x128.size a)
theorem k1_off5_inb : ∀ (i : grid1.Coords) (v163 : BitVec 32) (k1_hw3 : k1_chk3 i v163), ∀ a, (k1_off5 i v163) a + S1x128.size a ≤ S1792x128.size a := fun i v163 k1_hw3 => k1_hw3

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S24 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S24x2048 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S24x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x3584 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S24x2048 : Shape := ⟨2, ![24, 2048]⟩
abbrev S24x2 : Shape := ⟨2, ![24, 2]⟩
abbrev S24 : Shape := ⟨1, ![24]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S24x1 : Shape := ⟨2, ![24, 1]⟩
abbrev S22020096 : Shape := ⟨1, ![22020096]⟩
abbrev S49152 : Shape := ⟨1, ![49152]⟩
abbrev S49152x1 : Shape := ⟨2, ![49152, 1]⟩
abbrev S6144x3584 : Shape := ⟨2, ![6144, 3584]⟩

abbrev nBuf : Space → Nat
  | .hbm => 61
  | .vmem => 2
  | .smem => 0
  | _ => 0

abbrev bufTy : (tb : Table) → Fin (tcTables nBuf tb) → BufTy
  | .hbm, ⟨0, _⟩ => ⟨S24x2048, .i32⟩
  | .hbm, ⟨1, _⟩ => ⟨S24x2048, .fp8e5m2⟩
  | .hbm, ⟨2, _⟩ => ⟨S24x2, .f32⟩
  | .hbm, ⟨3, _⟩ => ⟨S24, .i32⟩
  | .hbm, ⟨4, _⟩ => ⟨S24x2048, .f32⟩
  | .hbm, ⟨5, _⟩ => ⟨S2048, .i32⟩
  | .hbm, ⟨6, _⟩ => ⟨S_, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S24x2048, .f32⟩
  | .hbm, ⟨33, _⟩ => ⟨S24x2048, .f32⟩
  | .hbm, ⟨34, _⟩ => ⟨S1x2048, .i32⟩
  | .hbm, ⟨35, _⟩ => ⟨S24x1, .i32⟩
  | .hbm, ⟨36, _⟩ => ⟨S24x2048, .i32⟩
  | .hbm, ⟨37, _⟩ => ⟨S24x2048, .i32⟩
  | .hbm, ⟨38, _⟩ => ⟨S24x2048, .i1⟩
  | .hbm, ⟨39, _⟩ => ⟨S_, .f32⟩
  | .hbm, ⟨40, _⟩ => ⟨S_, .f32⟩
  | .hbm, ⟨41, _⟩ => ⟨S24x2048, .f32⟩
  | .hbm, ⟨42, _⟩ => ⟨S24x2048, .f32⟩
  | .hbm, ⟨43, _⟩ => ⟨S_, .f32⟩
  | .hbm, ⟨44, _⟩ => ⟨S22020096, .f32⟩
  | .hbm, ⟨45, _⟩ => ⟨S49152, .i32⟩
  | .hbm, ⟨46, _⟩ => ⟨S49152, .f32⟩
  | .hbm, ⟨47, _⟩ => ⟨S_, .i32⟩
  | .hbm, ⟨48, _⟩ => ⟨S49152, .i32⟩
  | .hbm, ⟨49, _⟩ => ⟨S49152, .i1⟩
  | .hbm, ⟨50, _⟩ => ⟨S_, .i32⟩
  | .hbm, ⟨51, _⟩ => ⟨S49152, .i32⟩
  | .hbm, ⟨52, _⟩ => ⟨S49152, .i32⟩
  | .hbm, ⟨53, _⟩ => ⟨S49152, .i32⟩
  | .hbm, ⟨54, _⟩ => ⟨S49152x1, .i32⟩
  | .hbm, ⟨55, _⟩ => ⟨S22020096, .f32⟩
  | .hbm, ⟨56, _⟩ => ⟨S_, .f32⟩
  | .hbm, ⟨57, _⟩ => ⟨S22020096, .f32⟩
  | .hbm, ⟨58, _⟩ => ⟨S22020096, .f32⟩
  | .hbm, ⟨59, _⟩ => ⟨S6144x3584, .f32⟩
  | .hbm, ⟨60, _⟩ => ⟨S6144x3584, .bf16⟩
  | .local _ .vmem, ⟨0, _⟩ => ⟨S24x2048, .fp8e5m2⟩
  | .local _ .vmem, ⟨1, _⟩ => ⟨S24x2048, .f32⟩
  | _, _ => ⟨S24x2048, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_c_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S24x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Walk.lean ====
/-
  The walk of a row. The kernel keeps one pointer per row; a grid step moves each pointer forward over the entries that
  fall in the step's range of positions and folds every entry it passes into an accumulator. This module holds that
  walk as plain functions of the arrays: the test an entry must pass (`go`), where a walk stops (`stop`), what it folds
  (`walk`), the pointers at the head of every grid step (`ptr`), and the two facts about the pointers: everything below
  a pointer lies below the step's range (`below_of_lt_ptr`) and everything live at or past it does not (`low`).
-/
module

public import Idealize.ShloMosaic.Lib.ValueIdx

@[expose] public section

namespace Cert.Scatter

open Idealize.ShloMosaic Idealize.ShloMosaic.ValueIdx

/-! ## A walk while a test holds -/

section Walk

variable (g : ℕ → Prop) [DecidablePred g] {A : Type}

/-- Where a walk from `j` stops: at the first number where the test fails, or when the fuel is out. -/
def stop : ℕ → ℕ → ℕ
  | 0, j => j
  | f + 1, j => if g j then stop f (j + 1) else j

/-- What the same walk folds, one step per number it passes. -/
def walk (s : ℕ → A → A) : ℕ → ℕ → A → A
  | 0, _, a => a
  | f + 1, j, a => if g j then walk s f (j + 1) (s j a) else a

theorem le_stop : ∀ f j, j ≤ stop g f j
  | 0, j => le_rfl
  | f + 1, j => by
    unfold stop; split
    · exact (Nat.le_succ j).trans (le_stop f (j + 1))
    · exact le_rfl

theorem stop_le : ∀ f j, stop g f j ≤ j + f
  | 0, j => le_rfl
  | f + 1, j => by
    unfold stop; split
    · exact (stop_le f (j + 1)).trans (by omega)
    · omega

theorem go_of_lt_stop : ∀ f j k, j ≤ k → k < stop g f j → g k
  | 0, j, k, h, h' => by unfold stop at h'; omega
  | f + 1, j, k, h, h' => by
    unfold stop at h'
    split at h'
    · rename_i hj
      by_cases hk : k = j
      · exact hk ▸ hj
      · exact go_of_lt_stop f (j + 1) k (by omega) h'
    · omega

/-- With fuel enough to reach a number where the test fails, a walk stops where the test fails. -/
theorem not_go_stop : ∀ f j, ¬ g (j + f) → ¬ g (stop g f j)
  | 0, j, h => h
  | f + 1, j, h => by
    unfold stop; split
    · exact not_go_stop f (j + 1) (by rwa [show j + 1 + f = j + (f + 1) by omega])
    · assumption

/-- Induction along a walk. -/
theorem walk_induct (s : ℕ → A → A) (P : ℕ → A → Prop) :
    ∀ f j a, P j a → (∀ k b, j ≤ k → g k → P k b → P (k + 1) (s k b)) → P (stop g f j) (walk g s f j a)
  | 0, _, _, h, _ => h
  | f + 1, j, a, h, hs => by
    unfold stop walk
    split
    · rename_i hj
      exact walk_induct s P f (j + 1) (s j a) (hs j a le_rfl hj h) fun k b hk => hs k b (by omega)
    · exact h

end Walk

/-! ## The rows -/

/-- An array of one word per row, and one of a row of 2048 entries per row. -/
abbrev Counts := (⟨1, ![24]⟩ : Shape).Idx → BitVec 32
abbrev Rows (α : Type) := (⟨2, ![24, 2048]⟩ : Shape).Idx → α

/-- Row and column numbers as indices, numbers past the end at the last. -/
def row (w : ℕ) : Fin 24 := ⟨min w 23, by omega⟩
def col (j : ℕ) : Fin 2048 := ⟨min j 2047, by omega⟩

theorem row_val (w : Fin 24) : row w.val = w := Fin.ext (by show min w.val 23 = w.val; omega)
theorem col_val (j : Fin 2048) : col j.val = j := Fin.ext (by show min j.val 2047 = j.val; omega)

/-- Entry `j` of row `w`. -/
def cell {α : Type} (x : Rows α) (w j : ℕ) : α := x (ix2 (row w) (col j))

/-- Row `w`'s count, signed. -/
def cnt (x0 : Counts) (w : ℕ) : ℤ := (x0 (ix1 (row w))).toInt

/-- Entry `j` of row `w` is live and its position is below `e`. -/
def go (x0 : Counts) (x1 : Rows (BitVec 32)) (e : ℤ) (w j : ℕ) : Prop := (j : ℤ) < cnt x0 w ∧ (cell x1 w j).toInt < e

instance (x0 : Counts) (x1 : Rows (BitVec 32)) (e : ℤ) (w : ℕ) : DecidablePred (go x0 x1 e w) :=
  fun _ => inferInstanceAs (Decidable (_ ∧ _))

/-- Positions per grid step: 64 rows of 3584. -/
abbrev step : ℤ := 229376

/-- The pointers at the head of grid step `t`. -/
def ptr (x0 : Counts) (x1 : Rows (BitVec 32)) : ℕ → ℕ → ℕ
  | 0, _ => 0
  | t + 1, w => stop (go x0 x1 (((t + 1 : ℕ) : ℤ) * step) w) (2048 - ptr x0 x1 t w) (ptr x0 x1 t w)

/-- What the precondition says of the counts and the positions. -/
structure Sorted (x0 : Counts) (x1 : Rows (BitVec 32)) : Prop where
  cnt_le : ∀ w, cnt x0 w ≤ 2048
  nonneg : ∀ w j : ℕ, (j : ℤ) < cnt x0 w → 0 ≤ (cell x1 w j).toInt
  mono : ∀ w j : ℕ, ((j + 1 : ℕ) : ℤ) < cnt x0 w → (cell x1 w j).toInt ≤ (cell x1 w (j + 1)).toInt

variable {x0 : Counts} {x1 : Rows (BitVec 32)}

theorem ptr_le (t w : ℕ) : ptr x0 x1 t w ≤ 2048 := by
  induction t with
  | zero => exact Nat.zero_le _
  | succ t ih =>
    have := stop_le (go x0 x1 (((t + 1 : ℕ) : ℤ) * step) w) (2048 - ptr x0 x1 t w) (ptr x0 x1 t w)
    unfold ptr; omega

theorem ptr_le_succ (t w : ℕ) : ptr x0 x1 t w ≤ ptr x0 x1 (t + 1) w := by
  conv_rhs => unfold ptr
  exact le_stop _ _ _

/-- Along the live part of a row positions ascend. -/
theorem Sorted.le (h : Sorted x0 x1) (w j : ℕ) : ∀ d : ℕ, ((j + d : ℕ) : ℤ) < cnt x0 w → (cell x1 w j).toInt ≤ (cell x1 w (j + d)).toInt
  | 0, _ => le_rfl
  | d + 1, hd => (h.le w j d (by push_cast at hd ⊢; omega)).trans (h.mono w (j + d) (by exact_mod_cast hd))

/-- A live entry at or past the pointer of step `t` is at or past the step's first position. -/
theorem Sorted.low (h : Sorted x0 x1) (t w k : ℕ) (hk : ptr x0 x1 t w ≤ k) (hc : (k : ℤ) < cnt x0 w) :
    (t : ℤ) * step ≤ (cell x1 w k).toInt := by
  cases t with
  | zero => simpa using h.nonneg w k hc
  | succ t =>
    have hle := ptr_le (x0 := x0) (x1 := x1) t w
    have hc' := h.cnt_le w
    have hn : ¬ go x0 x1 (((t + 1 : ℕ) : ℤ) * step) w (ptr x0 x1 (t + 1) w) := by
      unfold ptr
      refine not_go_stop _ _ _ fun hg => ?_
      have := hg.1
      omega
    obtain ⟨d, rfl⟩ := Nat.exists_eq_add_of_le hk
    refine le_trans ?_ (h.le w _ d hc)
    by_contra hlt
    exact hn ⟨by push_cast at hc; omega, not_le.mp hlt⟩

/-- Every entry below the pointer of step `t` is live and lies before the step's first position. -/
theorem below_of_lt_ptr (t w k : ℕ) (hk : k < ptr x0 x1 t w) : (k : ℤ) < cnt x0 w ∧ (cell x1 w k).toInt < (t : ℤ) * step := by
  induction t with
  | zero => exact absurd hk (Nat.not_lt_zero k)
  | succ t ih =>
    by_cases h : k < ptr x0 x1 t w
    · obtain ⟨h1, h2⟩ := ih h
      exact ⟨h1, by unfold step at *; push_cast; omega⟩
    · unfold ptr at hk
      exact go_of_lt_stop _ _ _ k (by omega) hk

end Cert.Scatter

end
-- ==== Proof.Pre.lean ====
/-
  The precondition read off its own terms: every count is at most the length of a row, and the positions of a row's live
  part are nonnegative and ascend. This is `Sorted`, which the walks of the kernel are about.
-/
module

public import proofs.«01_k».proof.Pre_rows_sorted
public import proofs.«01_k».proof.Proof.Walk
public import Idealize.ShloMosaic.Lib.WordCmp
public import Idealize.ShloMosaic.Lib.Pipeline.Value

@[expose] public section

namespace Cert.Pre_rows_sorted

open Idealize.ShloMosaic Idealize.ShloMosaic.ValueIdx Idealize.ShloMosaic.WordCmp Cert.Scatter

/-- The shape conditions of the precondition's operations. -/
theorem facts : Facts where
  bcast_S24_S24x1_0 := by decide
  bcast_S24x1_S24x2048_0_1 := by decide
  bcast_S_S24 := by decide
  bcast_S_S24x2048 := by decide
  slices_S24x2048_S24x2047_0_1 := by decide
  slices_S24x2048_S24x2047_0_0 := by decide

variable {F : FTy → Type} [FloatOps F] [Facts]

theorem sorted (x1 : IVec S24x2048 32) (c : FVec F S24x2048 .fp8e5m2) (s : FVec F S24x2 .f32) (x0 : IVec S24 32)
    (h : (fn (F := F) x1 c s x0).1 = (fun _ => 1#1) ∧ (fn (F := F) x1 c s x0).2.1 = (fun _ => 1#1)
      ∧ (fn (F := F) x1 c s x0).2.2 = (fun _ => 1#1)) : Sorted x0 x1 := by
  obtain ⟨h1, h2, h3⟩ := h
  have hc : ∀ w : Fin 24, (x0 (ix1 w)).toInt ≤ 2048 := fun w => by
    have h := congrFun h1 (ix1 w)
    have h' : IntOp.cmpi .sle (x0 (ix1 w)) 2048#32 = 1#1 := h
    rw [cmpi_sle_eq, ofBool_decide_eq_one_iff] at h'
    exact h'
  have hb : ∀ (w : Fin 24) (j : Fin 2048), broadcastInDim S24x2048 ![0, 1] Facts.bcast_S24x1_S24x2048_0_1
      (broadcastInDim S24x1 ![0] Facts.bcast_S24_S24x1_0 x0) (ix2 w j) = x0 (ix1 w) := fun w j => by
    rw [broadcastInDim_apply _ Facts.bcast_S24x1_S24x2048_0_1 _ (ix2 w j) (ix2 w 0) (Fin.forall_fin_two.mpr ⟨rfl, rfl⟩)]
    exact broadcastInDim_apply _ Facts.bcast_S24_S24x1_0 x0 (ix2 w 0) (ix1 w) (Fin.forall_fin_one.mpr rfl)
  refine ⟨fun w => hc _, fun w j hj => ?_, fun w j hj => ?_⟩
  · have hj' : j < 2048 := by have := hc (row w); unfold cnt at hj; omega
    have h := congrFun h2 (ix2 (row w) (col j))
    have h' : IntOp.ori (IntOp.cmpi .sge (BitVec.ofNat 32 (col j).val) (x0 (ix1 (row w)))) (IntOp.cmpi .sge (x1 (ix2 (row w) (col j))) 0#32) = 1#1 := by
      rw [← hb (row w) (col j)]; exact h
    rw [cmpi_sge_eq, cmpi_sge_eq, ori_ofBool, ofBool_eq_one_iff, Bool.or_eq_true, decide_eq_true_eq, decide_eq_true_eq] at h'
    have e : (BitVec.ofNat 32 (col j).val).toInt = (j : ℤ) := by
      rw [toInt_ofNat_of_lt (by have := (col j).isLt; norm_num; omega)]; show ((min j 2047 : ℕ) : ℤ) = j; omega
    rw [e] at h'
    rcases h' with h' | h'
    · unfold cnt at hj; omega
    · exact h'
  · have hj' : j + 1 < 2048 := by have := hc (row w); unfold cnt at hj; omega
    have h := congrFun h3 (ix2 (row w) ⟨j, by omega⟩)
    have h' : IntOp.ori (IntOp.cmpi .sge (BitVec.ofNat 32 (j + 1)) (x0 (ix1 (row w))))
        (IntOp.cmpi .sle (x1 (ix2 (row w) (col j))) (x1 (ix2 (row w) (col (j + 1))))) = 1#1 := by
      have e0 : col j = ⟨j, by omega⟩ := Fin.ext (by show min j 2047 = j; omega)
      have e1 : col (j + 1) = ⟨j + 1, hj'⟩ := Fin.ext (by show min (j + 1) 2047 = j + 1; omega)
      have s0 : ∀ {α : Type} (x : S24x2048.Idx → α), extractStridedSlice S24x2047 ![0, 0] x Facts.slices_S24x2048_S24x2047_0_0 (ix2 (row w) ⟨j, by omega⟩)
          = x (ix2 (row w) (col j)) := fun x => by
        refine extractStridedSlice_apply _ x _ _ _ (Fin.forall_fin_two.mpr ⟨?_, ?_⟩)
        · show (row w).val = 0 + (row w).val; omega
        · rw [e0]; show j = 0 + j; omega
      have s1 : ∀ {α : Type} (x : S24x2048.Idx → α), extractStridedSlice S24x2047 ![0, 1] x Facts.slices_S24x2048_S24x2047_0_1 (ix2 (row w) ⟨j, by omega⟩)
          = x (ix2 (row w) (col (j + 1))) := fun x => by
        refine extractStridedSlice_apply _ x _ _ _ (Fin.forall_fin_two.mpr ⟨?_, ?_⟩)
        · show (row w).val = 0 + (row w).val; omega
        · rw [e1]; show j + 1 = 1 + j; omega
      rw [← hb (row w) (col (j + 1)), ← s0 x1, ← s1 x1]
      have e2 : BitVec.ofNat 32 (j + 1) = iotaInDim S24x2048 32 1 (ix2 (row w) (col (j + 1))) := by rw [e1]; rfl
      rw [e2, ← cmpi_at .sge (iotaInDim S24x2048 32 1), ← s1 (cmpi .sge _ _)]
      exact h
    rw [cmpi_sge_eq, cmpi_sle_eq, ori_ofBool, ofBool_eq_one_iff, Bool.or_eq_true, decide_eq_true_eq, decide_eq_true_eq,
      toInt_ofNat_of_lt (by norm_num; omega)] at h'
    rcases h' with h' | h'
    · unfold cnt at hj; omega
    · exact h'

end Cert.Pre_rows_sorted

end
-- ==== Proof.Words.lean ====
/-
  The kernel's words as numbers: the end of a grid step's range of positions, the test of a walk, and the accumulator row
  of a position.
-/
module

public import proofs.«01_k».proof.Proof.Walk
public import Idealize.ShloMosaic.Lib.WordCmp

@[expose] public section

namespace Cert.Scatter

open Idealize.ShloMosaic Idealize.ShloMosaic.ValueIdx Idealize.ShloMosaic.WordCmp

/-- A number below the length of a row, or the length itself, as a word. -/
theorem toInt_ofNat_le {j : ℕ} (h : j ≤ 2048) : (BitVec.ofNat 32 j).toInt = (j : ℤ) :=
  toInt_ofNat_of_lt (by norm_num; omega)

theorem toNat_ofNat_le {j : ℕ} (h : j ≤ 2048) : (BitVec.ofNat 32 j).toNat = j :=
  toNat_ofNat_of_lt (by norm_num; omega)

/-- The end of step `t`'s range. -/
theorem toInt_stepEnd {t : ℕ} (h : t < 96) :
    (Scalar.muli (Scalar.addi (BitVec.ofNat 32 t) 1#32) 229376#32).toInt = ((t + 1 : ℕ) : ℤ) * step := by
  have hw : Scalar.muli (Scalar.addi (BitVec.ofNat 32 t) 1#32) 229376#32 = BitVec.ofNat 32 ((t + 1) * 229376) := by
    show (BitVec.ofNat 32 t + BitVec.ofNat 32 1) * BitVec.ofNat 32 229376 = _
    rw [← BitVec.ofNat_add, ← BitVec.ofNat_mul]
  rw [hw, toInt_ofNat_of_lt (by norm_num; omega)]
  push_cast; rfl

/-- The kernel's loop condition is the walk's test. -/
theorem andi_slt_eq_one_iff (a b c d : BitVec 32) :
    Scalar.andi (Scalar.cmpi .slt a b) (Scalar.cmpi .slt c d) = 1#1 ↔ a.toInt < b.toInt ∧ c.toInt < d.toInt := by
  show IntOp.andi (IntOp.cmpi .slt a b) (IntOp.cmpi .slt c d) = 1#1 ↔ _
  rw [cmpi_slt_eq, cmpi_slt_eq, andi_ofBool, ofBool_eq_one_iff]
  simp only [Bool.and_eq_true, decide_eq_true_eq]

/-- The clamped column the condition reads. -/
theorem toNat_minsi {j : ℕ} (h : j ≤ 2048) : (Scalar.minsi (BitVec.ofNat 32 j) 2047#32).toNat = min j 2047 := by
  show (if (BitVec.ofNat 32 j).slt 2047#32 then BitVec.ofNat 32 j else 2047#32).toNat = _
  have h1 : (BitVec.ofNat 32 j).slt 2047#32 = decide ((j : ℤ) < 2047) := by
    rw [BitVec.slt, toInt_ofNat_le h]; rfl
  rw [h1]
  by_cases hj : j < 2047
  · rw [if_pos (by simpa using hj), toNat_ofNat_le h]; omega
  · rw [if_neg (by simpa using hj)]
    show 2047 = _
    omega

/-- A position of step `t`'s range: its accumulator row, counted from the step's first. -/
theorem toNat_row {t : ℕ} (ht : t < 96) {p : BitVec 32} (h1 : (t : ℤ) * step ≤ p.toInt) (h2 : p.toInt < ((t + 1 : ℕ) : ℤ) * step) :
    (Scalar.subi (Scalar.shrui p 7#32) (Scalar.muli (BitVec.ofNat 32 t) 1792#32)).toNat = p.toNat / 128 - t * 1792
      ∧ p.toNat / 128 - t * 1792 < 1792 ∧ t * 1792 ≤ p.toNat / 128 := by
  unfold step at h1 h2
  have hp : p.toInt = (p.toNat : ℤ) := toInt_eq_toNat_of_lt_half ((toInt_nonneg_iff_lt_half p).mp (by omega))
  rw [hp] at h1 h2
  have hm : Scalar.muli (BitVec.ofNat 32 t) 1792#32 = BitVec.ofNat 32 (t * 1792) := by
    show BitVec.ofNat 32 t * BitVec.ofNat 32 1792 = _
    rw [← BitVec.ofNat_mul]
  have hs : (Scalar.shrui p 7#32).toNat = p.toNat / 128 := by
    show (p >>> (7#32 : BitVec 32)).toNat = _
    simp [BitVec.toNat_ushiftRight, Nat.shiftRight_eq_div_pow]
  push_cast at h2
  refine ⟨?_, by omega, by omega⟩
  rw [hm]
  show (Scalar.shrui p 7#32 - BitVec.ofNat 32 (t * 1792)).toNat = _
  rw [BitVec.toNat_sub, hs, toNat_ofNat_of_lt (by norm_num; omega)]
  omega

end Cert.Scatter

end
-- ==== Proof.P.State.lean ====
/-
  What one grid step of the scatter leaves, as functions of the counts `x0`, the positions `x1` and the dequantised
  values `x2`: the accumulator after the step's walks (`accW`), each entry folded by `put`, and the block of the result
  read off it (`outBlk`).
-/
module

public import proofs.«01_k».proof.Proof.Gen.Kernel.Skeleton
public import proofs.«01_k».proof.Proof.Words

@[expose] public section

noncomputable section

namespace Cert.Kernel.Scatter

open Idealize.ShloMosaic Idealize.ShloMosaic.ValueIdx
open Cert.Kernel Cert.Kernel.Gen Cert.Scatter

variable {F : FTy → Type} [FloatOps F]

/-- The lane numbers the kernel compares a position's lane with. -/
abbrev lanes : IVec S1x128 32 := iota .tc S1x128 32 [1] iota_S1x128_d1_w32

/-- The accumulator of step `t` with the value `v` at position `p` folded in: the position's row is stored over, the other
    rows stay. -/
def put (t : ℕ) (p : BitVec 32) (v : F .f32) (acc : FVec F S1792x128 .f32) : FVec F S1792x128 .f32 := fun y =>
  if (y 0).val = p.toNat / 128 - t * 1792 then
    k1_pay4 lanes p v (fun x : S1x128.Idx => acc (ix2 (y 0) (x 1))) (ix2 0 (y 1))
  else acc y

/-- The accumulator of step `t` after the walks of the first `w` rows. -/
def accW (x0 : Counts) (x1 : Rows (BitVec 32)) (x2 : Rows (F .f32)) (t : ℕ) : ℕ → FVec F S1792x128 .f32
  | 0 => k1_pay5
  | w + 1 => walk (go x0 x1 (((t + 1 : ℕ) : ℤ) * Scatter.step) w) (fun k => put t (cell x1 w k) (cell x2 w k))
      (2048 - ptr x0 x1 t w) (ptr x0 x1 t w) (accW x0 x1 x2 t w)

/-- The result's block read off the accumulator: column `128·ct + l` of row `r` is row `28·r + ct`, lane `l`. -/
def outBlk (acc : FVec F S1792x128 .f32) : FVec F S64x3584 .bf16 := fun y =>
  k1_pay1 (fun x : S64x128.Idx => acc (ix2 ⟨(28 * (x 0).val + (y 1).val / 128) % 1792, Nat.mod_lt _ (by norm_num)⟩ (x 1)))
    (ix2 (y 0) ⟨(y 1).val % 128, Nat.mod_lt _ (by norm_num)⟩)

end Cert.Kernel.Scatter

end
-- ==== Proof.P.While.lean ====
/-
  One row's walk: the label of the kernel's `scf.while`, at any staging buffers. Holding the positions and the values of
  every row and the accumulator, called at an entry number `j` at or below 2048, it returns the number where the walk
  stops and leaves the accumulator with every entry the walk passed folded in (`spec_le`, by induction on the entries
  left). The side conditions of its loads and of its store hold: an entry number is below 2048 where it is loaded from,
  and a position the test lets through lies in the step's range, since the entries from `j` on do not lie before it.
-/
module

public import proofs.«01_k».proof.Proof.P.State
public import Idealize.ShloMosaic.Lib.Pipeline.Kit
public import Idealize.ShloMosaic.Lib.WritesUnit
public import Idealize.ShloMosaic.Lib.Tactic

@[expose] public section

noncomputable section

namespace Cert.Kernel.Scatter

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Scatter

variable {F : FTy → Type} [FloatOps F]

local notation "𝕄" => MT nD τ sig Unit (Elt F) ℕ (UR sig nD τ) ℕ

/-- Variants: numbers, the entries a walk may still pass. -/
abbrev 𝒱₀ : Variants := Variants.nat

/-! ## The offsets -/

theorem off2_eq (kt : Fin k1_t2_loop.trips) : k1_off2 kt = ![kt.val] := by
  revert kt; decide +kernel

theorem off3_eq (kt : Fin k1_t2_loop.trips) {j : ℕ} (hj : j ≤ 2048) : k1_off3 kt (BitVec.ofNat 32 j) = ![kt.val, min j 2047] := by
  show ![k1_off2 kt 0, (Scalar.minsi (BitVec.ofNat 32 j) 2047#32).toNat] = _
  rw [toNat_minsi hj, off2_eq]; rfl

theorem off4_eq (kt : Fin k1_t2_loop.trips) {j : ℕ} (hj : j ≤ 2048) : k1_off4 kt (BitVec.ofNat 32 j) = ![kt.val, j] := by
  show ![k1_off2 kt 0, (BitVec.ofNat 32 j).toNat] = _
  rw [toNat_ofNat_le hj, off2_eq]; rfl

theorem trip_lt (kt : Fin k1_t2_loop.trips) : kt.val < 24 := Nat.lt_of_lt_of_le kt.isLt (by decide +kernel)

/-- The rectangle of one word at row `w`, column `j` reads that entry. -/
theorem read_cell {α : Type} (x : Rows α) {off : Fin 2 → ℕ} {w j : ℕ} (h : off = ![w, j])
    (inb : ∀ a, off a + (![1, 1] : Fin 2 → ℕ) a ≤ S24x2048.size a)
    (z : (Rect.unit (s := S24x2048) off ![1, 1] inb).shape.Idx) :
    x ((Rect.unit (s := S24x2048) off ![1, 1] inb).idx z) = cell x w j := by
  subst h
  have h0 : w + 1 ≤ 24 := inb 0
  have h1 : j + 1 ≤ 2048 := inb 1
  have z0 : (z 0).val < 1 := (z 0).isLt
  have z1 : (z 1).val < 1 := (z 1).isLt
  unfold cell
  refine congrArg x (funext fun a => Fin.ext ?_)
  fin_cases a
  · show w + 1 * (z 0).val = min w 23
    omega
  · show j + 1 * (z 1).val = min j 2047
    omega

/-- The accumulator read back after a store over its row `o`. -/
theorem read_row {sp : Space} (v : View sig .tc sp S1792x128 .f32) (f : v.ty.Contents (Elt F)) {o : ℕ} {off : Fin 2 → ℕ}
    (inb : ∀ a, off a + S1x128.size a ≤ S1792x128.size a) (h : off = ![o, 0]) (w : S1x128.Idx → F .f32) (y : S1792x128.Idx) :
    v.read (Elt F) ((v.slice (Rect.unit (s := S1792x128) off S1x128.size inb)).write (Elt F) f w Finset.univ) y
      = if (y 0).val = o then w (ix2 0 (y 1)) else v.read (Elt F) f y := by
  subst h
  refine (View.read_writes_cons_unit v f inb w [] y rfl).trans ?_
  have y1 : (y 1).val < 128 := (y 1).isLt
  by_cases hy : (y 0).val = o
  · rw [if_pos hy, dif_pos (Fin.forall_fin_two.mpr ⟨⟨hy.ge, by show (y 0).val < _ + 1; rw [hy]; exact Nat.lt_succ_self _⟩, Nat.zero_le _, by show (y 1).val < 0 + 128; omega⟩)]
    refine congrArg w (funext fun a => Fin.ext ?_)
    fin_cases a
    · show (y 0).val - o = 0
      omega
    · show (y 1).val - 0 = (y 1).val
      omega
  · rw [if_neg hy, dif_neg fun hall => hy ?_]
    · rfl
    · have h0 : o ≤ (y 0).val ∧ (y 0).val < o + 1 := hall 0
      omega

/-- A row of the accumulator stored over with the kernel's sum is `put`. -/
theorem read_put {sp : Space} {v : View sig .tc sp S1792x128 .f32} {f : v.ty.Contents (Elt F)} {acc : FVec F S1792x128 .f32}
    (hf : v.read (Elt F) f = acc) {t : ℕ} {p : BitVec 32} {x : F .f32} {off : Fin 2 → ℕ}
    (inb : ∀ a, off a + S1x128.size a ≤ S1792x128.size a) (h : off = ![p.toNat / 128 - t * 1792, 0]) :
    v.read (Elt F) ((v.slice (Rect.unit (s := S1792x128) off S1x128.size inb)).write (Elt F) f
        (k1_pay4 lanes p x (v.readAt (Elt F) (Rect.unit (s := S1792x128) off S1x128.size inb).toLoadRect f)) Finset.univ)
      = put t p x acc := by
  funext y
  rw [read_row v f inb h]
  unfold put
  split
  · rename_i hy
    have hrow : v.readAt (Elt F) (Rect.unit (s := S1792x128) off S1x128.size inb).toLoadRect f
        = (fun z : S1x128.Idx => acc (ix2 (y 0) (z 1))) := by
      subst h hf
      funext z
      show v.read (Elt F) f _ = _
      refine congrArg (v.read (Elt F) f) (funext fun a => Fin.ext ?_)
      have z0 : (z 0).val < 1 := (z 0).isLt
      fin_cases a
      · show p.toNat / 128 - t * 1792 + (1 * (z 0).val) = (y 0).val
        omega
      · show 0 + 1 * (z 1).val = (z 1).val
        omega
    rw [hrow]
  · rw [hf]

/-- A load of one word of the rows, at row `kt` and column `j`: the program continues at that entry. -/
theorem wp_load_cell {c : Dev nD} {bd : Option 𝒱₀.V} {E : Set ℕ} {e : EltTy} {m : Memref sig .tc .smem S24x2048 e}
    {off : Fin 2 → ℕ} {inb : ∀ a, off a + S1x1.size a ≤ S24x2048.size a}
    {hl : m.view.LoadsAt (Rect.unit (s := S24x2048) off S1x1.size inb).toLoadRect} {β : Type}
    {k : (S1x1.Idx → Elt F e) → Prog (TpuEff nD τ sig (Elt F) (Λ₀ F) .tc) β} {Q : β → sProp 𝕄}
    {f : Buf (Elt F) (m.view.loc (c : Thread nD τ))} {x : Rows (Elt F e)} {w j : ℕ} (hf : m.view.read (Elt F) f = x) (h : off = ![w, j]) :
    (m.view.loc (c : Thread nD τ) ↦[m.view.set]{fullShare} f)
      ⊢ iprop(((m.view.loc (c : Thread nD τ) ↦[m.view.set]{fullShare} f)
            -∗ wp frame (wpE (defs₀ (F := F)) 𝒱₀ (c : Thread nD τ) bd) E (k fun _ => cell x w j) Q)
        -∗ wp frame (wpE (defs₀ (F := F)) 𝒱₀ (c : Thread nD τ) bd) E
            (.op (.load m (Rect.unit (s := S24x2048) off S1x1.size inb).toLoadRect hl) k) Q) := by
  have hr : m.view.readAt (Elt F) (Rect.unit (s := S24x2048) off S1x1.size inb).toLoadRect f = fun _ => cell x w j := by
    subst hf; exact funext fun z => read_cell _ h inb z
  have hk : k (m.view.readAt (Elt F) (Rect.unit (s := S24x2048) off S1x1.size inb).toLoadRect f) = k fun _ => cell x w j :=
    congrArg k hr
  rw [← hk]
  exact wp_load 𝒱₀ (c : Thread nD τ) bd E (View.setOn_subset_set _ _)

/-! ## The label -/

section Label

variable (c : Dev nD) (i : grid1.Coords) (kt : Fin k1_t2_loop.trips) (n : BitVec 32)
  (arg2 : Memref sig .tc .smem S24x2048 .i32) (harg2 : arg2.IsWhole) (arg3 : Memref sig .tc .smem S24x2048 .f32) (harg3 : arg3.IsWhole)
  (arg5 : Memref sig .tc .vmem S1792x128 .f32) (harg5 : arg5.IsWhole)
  (x0 : Counts) (x1 : Rows (BitVec 32)) (x2 : Rows (F .f32))

/-- The three buffers the label reads and writes, the accumulator at `acc`. -/
def held (acc : FVec F S1792x128 .f32) : sProp 𝕄 :=
  iprop(owns (c : Thread nD τ) arg2 fullShare x1 ∗ owns (c : Thread nD τ) arg3 fullShare x2 ∗ owns (c : Thread nD τ) arg5 fullShare acc)

/-- The walk of row `kt` from entry `j` with `f` entries left: holding the buffers it returns where the walk stops, the
    accumulator at what the walk folds. -/
def spec (f j : ℕ) (acc : FVec F S1792x128 .f32) : sWPT 𝕄 (BitVec 32) := do
  sWPT.consume (held c arg2 arg3 arg5 x1 x2 acc)
  sWPT.produce (held c arg2 arg3 arg5 x1 x2
    (walk (go x0 x1 ((((i 0).val + 1 : ℕ) : ℤ) * Scatter.step) kt.val)
      (fun k => put (i 0).val (cell x1 kt.val k) (cell x2 kt.val k)) f j acc))
  pure (BitVec.ofNat 32 (stop (go x0 x1 ((((i 0).val + 1 : ℕ) : ℤ) * Scatter.step) kt.val) f j))

theorem spec_apply (f j : ℕ) (acc : FVec F S1792x128 .f32) (K : BitVec 32 → sProp 𝕄) :
    spec c i kt arg2 arg3 arg5 x0 x1 x2 f j acc K
      = iprop(held c arg2 arg3 arg5 x1 x2 acc ∗ (held c arg2 arg3 arg5 x1 x2
          (walk (go x0 x1 ((((i 0).val + 1 : ℕ) : ℤ) * Scatter.step) kt.val)
            (fun k => put (i 0).val (cell x1 kt.val k) (cell x2 kt.val k)) f j acc)
          -∗ K (BitVec.ofNat 32 (stop (go x0 x1 ((((i 0).val + 1 : ℕ) : ℤ) * Scatter.step) kt.val) f j)))) := rfl

variable {n x0} in
/-- The label's test at entry `j` is the walk's. -/
theorem test_iff (hi : (i 0).val < 96) (hn : n.toInt = cnt x0 kt.val) {j : ℕ} (hj : j ≤ 2048) :
    Scalar.andi (Scalar.cmpi .slt (BitVec.ofNat 32 j) n)
        (Scalar.cmpi .slt (cell x1 kt.val (min j 2047)) (Scalar.muli (Scalar.addi (BitVec.ofNat 32 (i 0).val) 1#32) 229376#32)) = 1#1
      ↔ go x0 x1 ((((i 0).val + 1 : ℕ) : ℤ) * Scatter.step) kt.val j := by
  rw [andi_slt_eq_one_iff, toInt_stepEnd hi, toInt_ofNat_le hj, hn]
  have hc : cell x1 kt.val (min j 2047) = cell x1 kt.val j := by
    unfold cell col; congr 2; exact Fin.ext (by show min (min j 2047) 2047 = min j 2047; omega)
  rw [hc]; rfl

variable {n x0} in
theorem chk1 {j : ℕ} (hj : j ≤ 2048) : k1_chk1 kt (BitVec.ofNat 32 j) := by
  unfold k1_chk1; rw [off3_eq kt hj]; have := trip_lt kt
  exact Fin.forall_fin_two.mpr ⟨by show kt.val + 1 ≤ 24; omega, by show min j 2047 + 1 ≤ 2048; omega⟩

theorem chk2 {j : ℕ} (hj : j < 2048) : k1_chk2 kt (BitVec.ofNat 32 j) := by
  unfold k1_chk2; rw [off4_eq kt hj.le]; have := trip_lt kt
  exact Fin.forall_fin_two.mpr ⟨by show kt.val + 1 ≤ 24; omega, by show j + 1 ≤ 2048; omega⟩

/-- Where the test fails the label's function returns its entry number and touches nothing. -/
theorem exit_le (bd : Option 𝒱₀.V) (E : Set ℕ) (hi : (i 0).val < 96) (hn : n.toInt = cnt x0 kt.val) (j : ℕ) (hj : j ≤ 2048)
    (hg : ¬ go x0 x1 ((((i 0).val + 1 : ℕ) : ℤ) * Scatter.step) kt.val j) (acc : FVec F S1792x128 .f32) (K : BitVec 32 → sProp 𝕄) :
    iprop(held c arg2 arg3 arg5 x1 x2 acc ∗ (held c arg2 arg3 arg5 x1 x2 acc -∗ K (BitVec.ofNat 32 j)))
      ⊢ wp frame (wpE (defs₀ (F := F)) 𝒱₀ (c : Thread nD τ) bd) E
          (cc1_while1 i kt n arg2 harg2 arg3 harg3 arg5 harg5 lanes (BitVec.ofNat 32 j)) K := by
  simp only [cc1_while1_eq_skeleton]; unfold cc1_while1_skel
  simp only [smemLoad, smemLoadElt, Prog.lift, Prog.bind_op, Prog.bind_ret, Prog.pure_eq_ret]
  unfold held owns
  iintro ⟨⟨⟨%f1, %h1, H1⟩, H2, H5⟩, Hk⟩
  iapply (wp_assume 𝒱₀ (c : Thread nD τ) bd E (chk1 kt hj))
  iapply (wp_load_cell h1 (off3_eq kt hj)) $$ H1; iintro H1
  rw [if_neg fun h => hg ((test_iff i kt x1 hi hn hj).mp h), wp_ret]
  imodintro
  iapply Hk
  isplitl [H1]
  · iexists _; isplitr; · ipureintro; exact h1
    iexact H1
  isplitl [H2]; · iexact H2
  iexact H5

set_option maxHeartbeats 400000 in
include harg2 harg3 harg5 in
/-- The label's function meets the specification with `f` entries left, entered at variant `f`. -/
theorem spec_le (E : Set ℕ) (hi : (i 0).val < 96) (hn : n.toInt = cnt x0 kt.val) (hn' : cnt x0 kt.val ≤ 2048) :
    ∀ f j : ℕ, j + f = 2048 → (∀ k : ℕ, j ≤ k → (k : ℤ) < cnt x0 kt.val → ((i 0).val : ℤ) * Scatter.step ≤ (cell x1 kt.val k).toInt) →
      ∀ acc K, spec c i kt arg2 arg3 arg5 x0 x1 x2 f j acc K
        ⊢ wp frame (wpE (defs₀ (F := F)) 𝒱₀ (c : Thread nD τ) (some f)) E
          (defs₀ (F := F) .tc 2 ⟨i, kt, n, arg2, harg2, arg3, harg3, arg5, harg5, lanes, BitVec.ofNat 32 j⟩) K := by
  intro f
  induction f with
  | zero =>
    intro j hj hlow acc K
    have hg : ¬ go x0 x1 ((((i 0).val + 1 : ℕ) : ℤ) * Scatter.step) kt.val j := fun h => by have := h.1; omega
    exact exit_le c i kt n arg2 harg2 arg3 harg3 arg5 harg5 x0 x1 x2 (some 0) E hi hn j (by omega) hg acc K
  | succ f ih =>
    intro j hj hlow acc K
    have hj' : j ≤ 2048 := by omega
    by_cases hg : go x0 x1 ((((i 0).val + 1 : ℕ) : ℤ) * Scatter.step) kt.val j
    swap
    · have h := exit_le c i kt n arg2 harg2 arg3 harg3 arg5 harg5 x0 x1 x2 (some (f + 1)) E hi hn j hj' hg acc K
      rw [spec_apply]; unfold stop walk; rw [if_neg hg, if_neg hg]
      exact h
    rw [spec_apply]; unfold stop walk; rw [if_pos hg, if_pos hg]
    show _ ⊢ wp frame (wpE (defs₀ (F := F)) 𝒱₀ (c : Thread nD τ) (some (f + 1))) E
      (cc1_while1 i kt n arg2 harg2 arg3 harg3 arg5 harg5 lanes (BitVec.ofNat 32 j)) K
    simp only [cc1_while1_eq_skeleton]; unfold cc1_while1_skel
    simp only [smemLoad, smemLoadElt, Prog.lift, Prog.bind_op, Prog.bind_ret, Prog.pure_eq_ret]
    -- the row of the accumulator that entry `j` falls in
    have hrow := toNat_row hi (hlow j le_rfl hg.1) hg.2
    have h5eq : k1_off5 i (cell x1 kt.val j) = ![(cell x1 kt.val j).toNat / 128 - (i 0).val * 1792, 0] := by
      rw [← hrow.1]; rfl
    have hc3 : k1_chk3 i (cell x1 kt.val j) := by
      unfold k1_chk3; rw [h5eq]
      exact Fin.forall_fin_two.mpr ⟨hrow.2.1, by show 0 + 128 ≤ 128; omega⟩
    unfold held owns
    iintro ⟨⟨⟨%f1, %h1, H1⟩, ⟨%f2, %h2, H2⟩, ⟨%f5, %h5, H5⟩⟩, Hk⟩
    iapply (wp_assume 𝒱₀ (c : Thread nD τ) (some (f + 1)) E (chk1 kt hj'))
    iapply (wp_load_cell h1 (off3_eq kt hj')) $$ H1; iintro H1
    rw [if_pos ((test_iff i kt x1 hi hn hj').mpr hg)]
    have hj2 : j < 2048 := by omega
    iapply (wp_assume 𝒱₀ (c : Thread nD τ) (some (f + 1)) E (chk2 kt hj2))
    iapply (wp_load_cell h1 (off4_eq kt hj')) $$ H1; iintro H1
    iapply (wp_assume 𝒱₀ (c : Thread nD τ) (some (f + 1)) E hc3)
    iapply (wp_load_cell h2 (off4_eq kt hj')) $$ H2; iintro H2
    let r5 : Rect S1792x128 := Rect.unit (s := S1792x128) (k1_off5 i (cell x1 kt.val j)) S1x128.size (k1_off5_inb i _ hc3)
    have hS5 : arg5.view.setOn r5.toLoadRect.set ⊆ arg5.view.set := View.setOn_subset_set _ _
    iapply (wp_load 𝒱₀ (c : Thread nD τ) (some (f + 1)) E (m := arg5) (r := r5.toLoadRect) (f := f5) hS5) $$ H5; iintro H5
    iapply (wp_load 𝒱₀ (c : Thread nD τ) (some (f + 1)) E (m := arg5) (r := r5.toLoadRect) (f := f5) hS5) $$ H5; iintro H5
    iapply (wp_store 𝒱₀ (c : Thread nD τ) (some (f + 1)) E (m := arg5)
      (r := r5) (Mk := Finset.univ) (f := f5) (View.set_slice_subset _ _)) $$ H5; iintro H5
    have hput := read_put h5 (t := (i 0).val) (p := cell x1 kt.val j) (x := cell x2 kt.val j) (k1_off5_inb i _ hc3) h5eq
    have hadd : Scalar.addi (BitVec.ofNat 32 j) 1#32 = BitVec.ofNat 32 (j + 1) := by
      show BitVec.ofNat 32 j + BitVec.ofNat 32 1 = _
      rw [← BitVec.ofNat_add]
    rw [hadd]
    -- the call of the label at the next entry, one entry fewer left
    iapply (wp_call_spec 𝒱₀ (c : Thread nD τ) (some (f + 1)) E (spec c i kt arg2 arg3 arg5 x0 x1 x2 f (j + 1)
        (put (i 0).val (cell x1 kt.val j) (cell x2 kt.val j) acc)) f (fun u hu => by cases hu; exact Nat.lt_succ_self f)
      (ih (j + 1) (by omega) (fun k hk => hlow k (by omega)) _))
    rw [spec_apply]; unfold held owns
    isplitl [H1 H2 H5]
    · isplitl [H1]
      · iexists _; isplitr; · ipureintro; exact h1
        iexact H1
      isplitl [H2]
      · iexists _; isplitr; · ipureintro; exact h2
        iexact H2
      iexists _; isplitr; · ipureintro; exact hput
      iexact H5
    iintro H
    rw [wp_ret]; imodintro
    iapply Hk
    iexact H

end Label

end Cert.Kernel.Scatter

end
-- ==== Proof.P.Rows.lean ====
/-
  The two counted loops of a grid step, one trip each: the zeroing of the pointers in step 0, and the walks of the 24
  rows, each trip calling the label of `While.lean` at the row's pointer and storing where it stopped.
-/
module

public import proofs.«01_k».proof.Proof.P.While
public import Idealize.ShloMosaic.Lib.CellWrites

@[expose] public section

noncomputable section

namespace Cert.Kernel.Scatter

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Scatter

variable {F : FTy → Type} [FloatOps F]

local notation "𝕄" => MT nD τ sig Unit (Elt F) ℕ (UR sig nD τ) ℕ

theorem off1_eq (k : Fin k1_t1_loop.trips) : k1_off1 k = ![k.val] := by
  revert k; decide +kernel

/-- A load of one word of the 24, at `k`: the program continues at that word. -/
theorem wp_load_word {c : Dev nD} {bd : Option 𝒱₀.V} {E : Set ℕ} {m : Memref sig .tc .smem S24 .i32}
    {off : Fin 1 → ℕ} {inb : ∀ a, off a + S1.size a ≤ S24.size a}
    {hl : m.view.LoadsAt (Rect.unit (s := S24) off S1.size inb).toLoadRect} {β : Type}
    {k : (S1.Idx → BitVec 32) → Prog (TpuEff nD τ sig (Elt F) (Λ₀ F) .tc) β} {Q : β → sProp 𝕄}
    {f : Buf (Elt F) (m.view.loc (c : Thread nD τ))} {x : Counts} {w : ℕ} (hf : m.view.read (Elt F) f = x) (h : off = ![w]) :
    (m.view.loc (c : Thread nD τ) ↦[m.view.set]{fullShare} f)
      ⊢ iprop(((m.view.loc (c : Thread nD τ) ↦[m.view.set]{fullShare} f)
            -∗ wp frame (wpE (defs₀ (F := F)) 𝒱₀ (c : Thread nD τ) bd) E (k fun _ => x (ix1 (row w))) Q)
        -∗ wp frame (wpE (defs₀ (F := F)) 𝒱₀ (c : Thread nD τ) bd) E
            (.op (.load m (Rect.unit (s := S24) off S1.size inb).toLoadRect hl) k) Q) := by
  have hr : m.view.readAt (Elt F) (Rect.unit (s := S24) off S1.size inb).toLoadRect f = fun _ => x (ix1 (row w)) := by
    subst hf h
    funext z
    have h0 : w + 1 ≤ 24 := inb 0
    have z0 : (z 0).val < 1 := (z 0).isLt
    refine congrArg (m.view.read (Elt F) f) (funext fun a => Fin.ext ?_)
    fin_cases a
    show w + 1 * (z 0).val = min w 23
    omega
  have hk : k (m.view.readAt (Elt F) (Rect.unit (s := S24) off S1.size inb).toLoadRect f) = k fun _ => x (ix1 (row w)) :=
    congrArg k hr
  rw [← hk]
  exact wp_load 𝒱₀ (c : Thread nD τ) bd E (View.setOn_subset_set _ _)

/-- The 24 words read back after a store of `p` at `w`. -/
theorem read_word (v : View sig .tc .smem S24 .i32) (f : v.ty.Contents (Elt F)) {off : Fin 1 → ℕ} {w : ℕ}
    (inb : ∀ a, off a + S1.size a ≤ S24.size a) (h : off = ![w]) (p : BitVec 32) (y : S24.Idx) :
    v.read (Elt F) ((v.slice (Rect.unit (s := S24) off S1.size inb)).write (Elt F) f (fun _ => p) Finset.univ) y
      = if (y 0).val = w then p else v.read (Elt F) f y := by
  subst h
  exact View.read_writes_cons_cell v f inb p [] y

section Trips

variable (c : Dev nD) (i : grid1.Coords)
  (arg1 : Memref sig .tc .smem S24 .i32) (harg1 : arg1.IsWhole)
  (arg2 : Memref sig .tc .smem S24x2048 .i32) (harg2 : arg2.IsWhole) (arg3 : Memref sig .tc .smem S24x2048 .f32) (harg3 : arg3.IsWhole)
  (arg4 : Memref sig .tc .vmem S64x3584 .bf16) (harg4 : arg4.IsWhole)
  (arg5 : Memref sig .tc .vmem S1792x128 .f32) (harg5 : arg5.IsWhole) (arg6 : Memref sig .tc .smem S24 .i32) (harg6 : arg6.IsWhole)

/-- Before trip `k` of the zeroing the first `k` pointers are zero. -/
def zeroInv (k : ℕ) (_ : Unit) : sProp 𝕄 :=
  iprop(∃ f : Buf (Elt F) (arg6.view.loc (c : Thread nD τ)), ⌜∀ y : S24.Idx, (y 0).val < k → arg6.view.read (Elt F) f y = 0#32⌝
    ∗ (arg6.view.loc (c : Thread nD τ) ↦[arg6.view.set]{fullShare} f))

theorem zero_trip (E : Set ℕ) (h1 : k1_cond1 i = 1#1) (k : Fin k1_t1_loop.trips) (u : Unit) :
    zeroInv (F := F) c arg6 k.val u
      ⊢ wp frame (wpE (defs₀ (F := F)) 𝒱₀ (c : Thread nD τ) none) E
          (k1_t1_body (F := F) i arg1 harg1 arg2 harg2 arg3 harg3 arg4 harg4 arg5 harg5 arg6 harg6 h1 k u)
          (zeroInv (F := F) c arg6 (k.val + 1)) := by
  unfold k1_t1_body
  simp only [smemLoad, smemLoadElt, Prog.lift, Prog.bind_op, Prog.bind_ret, Prog.pure_eq_ret]
  unfold zeroInv
  iintro ⟨%f, %hf, H⟩
  iapply (wp_load_word rfl (off1_eq k)) $$ H; iintro H
  iapply (wp_store 𝒱₀ (c : Thread nD τ) none E (m := arg6) (r := Rect.unit (s := S24) (k1_off1 k) S1.size (k1_off1_inb i k h1))
    (Mk := Finset.univ) (f := f) (View.set_slice_subset _ _)) $$ H; iintro H
  rw [wp_ret]; imodintro
  iexists _; isplitr
  swap; · iexact H
  ipureintro
  intro y hy
  refine (read_word arg6.view f _ (off1_eq k) _ y).trans ?_
  split
  · rfl
  · exact hf y (by omega)

variable (x0 : Counts) (x1 : Rows (BitVec 32)) (x2 : Rows (F .f32))

/-- The 24 pointers in the middle of step `t`: the first `k` rows walked. -/
def ptrs (t k : ℕ) : Counts := fun y => BitVec.ofNat 32 (if (y 0).val < k then ptr x0 x1 (t + 1) (y 0).val else ptr x0 x1 t (y 0).val)

/-- Before trip `k` of the walks the first `k` rows are walked. -/
def rowInv (t k : ℕ) (_ : Unit) : sProp 𝕄 :=
  iprop(owns (c : Thread nD τ) arg1 fullShare x0 ∗ held c arg2 arg3 arg5 x1 x2 (accW x0 x1 x2 t k)
    ∗ owns (c : Thread nD τ) arg6 fullShare (ptrs x0 x1 t k))

include harg2 harg3 harg5 in
theorem row_trip (E : Set ℕ) (hs : Sorted x0 x1) (k : Fin k1_t2_loop.trips) (u : Unit) :
    rowInv c arg1 arg2 arg3 arg5 arg6 x0 x1 x2 (i 0).val k.val u
      ⊢ wp frame (wpE (defs₀ (F := F)) 𝒱₀ (c : Thread nD τ) none) E
          (k1_t2_body (F := F) i arg1 harg1 arg2 harg2 arg3 harg3 arg4 harg4 arg5 harg5 arg6 harg6 lanes k u)
          (rowInv c arg1 arg2 arg3 arg5 arg6 x0 x1 x2 (i 0).val (k.val + 1)) := by
  have hk := trip_lt k
  have hi : (i 0).val < 96 := (i 0).isLt
  have hrow : row k.val = ⟨k.val, hk⟩ := row_val ⟨k.val, hk⟩
  unfold k1_t2_body
  simp only [smemLoad, smemLoadElt, Prog.lift, Prog.bind_op, Prog.bind_ret, Prog.pure_eq_ret]
  unfold rowInv
  unfold owns
  iintro ⟨⟨%f1, %h1, H1⟩, Hh, ⟨%f6, %h6, H6⟩⟩
  iapply (wp_load_word h1 (off2_eq k)) $$ H1; iintro H1
  iapply (wp_load_word h6 (off2_eq k)) $$ H6; iintro H6
  have hp : ptrs x0 x1 (i 0).val k.val (ix1 (row k.val)) = BitVec.ofNat 32 (ptr x0 x1 (i 0).val k.val) := by
    rw [hrow]
    show BitVec.ofNat 32 (if k.val < k.val then _ else _) = _
    rw [if_neg (lt_irrefl _)]
  rw [hp]
  have hle := ptr_le (x0 := x0) (x1 := x1) (i 0).val k.val
  iapply (wp_call_spec 𝒱₀ (c : Thread nD τ) none E (spec c i k arg2 arg3 arg5 x0 x1 x2 (2048 - ptr x0 x1 (i 0).val k.val)
      (ptr x0 x1 (i 0).val k.val) (accW x0 x1 x2 (i 0).val k.val)) (2048 - ptr x0 x1 (i 0).val k.val) (fun u hu => nomatch hu)
    (spec_le c i k (x0 (ix1 (row k.val))) arg2 harg2 arg3 harg3 arg5 harg5 x0 x1 x2 E hi rfl (hs.cnt_le _) _ _ (by omega)
      (fun n hn hc => hs.low _ _ n hn hc) _))
  rw [spec_apply]
  isplitl [Hh]; · iexact Hh
  iintro Hh
  iapply (wp_load_word h6 (off2_eq k)) $$ H6; iintro H6
  iapply (wp_store 𝒱₀ (c : Thread nD τ) none E (m := arg6) (r := Rect.unit (s := S24) (k1_off2 k) S1.size (k1_off2_inb k))
    (Mk := Finset.univ) (f := f6) (View.set_slice_subset _ _)) $$ H6; iintro H6
  rw [wp_ret]; imodintro
  isplitl [H1]
  · iexists _; isplitr; · ipureintro; exact h1
    iexact H1
  isplitl [Hh]; · iexact Hh
  iexists _; isplitr
  swap; · iexact H6
  ipureintro
  funext y
  refine (read_word arg6.view f6 _ (off2_eq k) _ y).trans ?_
  rw [h6]
  unfold ptrs
  split
  · rename_i hy
    rw [if_pos (by omega), hy]; rfl
  · rename_i hy
    by_cases hy' : (y 0).val < k.val
    · rw [if_pos hy', if_pos (by omega)]
    · rw [if_neg hy', if_neg (by omega)]

end Trips

end Cert.Kernel.Scatter

end
-- ==== Proof.P.Body.lean ====
/-
  One grid step of the scatter: the pointers zeroed in step 0, the accumulator zeroed, the 24 rows walked, and the
  block of the result read off the accumulator in 28 tiles.
-/
module

public import proofs.«01_k».proof.Proof.P.Rows
public import Idealize.ShloMosaic.Lib.Pipeline.ReadBack
public import Idealize.ShloMosaic.Lib.Ring

@[expose] public section

set_option maxRecDepth 16384

noncomputable section

namespace Cert.Kernel.Scatter

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Scatter

variable {F : FTy → Type} [FloatOps F]

local notation "𝕄" => MT nD τ sig Unit (Elt F) ℕ (UR sig nD τ) ℕ

/-- A branch before a continuation both arms run is the branch, then the continuation. -/
theorem dite_bind.{v} {E : Type → Type v} {β : Type} {C : Prop} [Decidable C] (a : C → Prog E PUnit) (r : Prog E β) :
    (if h : C then a h >>= fun _ => r else r) = ((if h : C then a h else pure ⟨⟩) >>= fun _ => r) := by
  split <;> rfl

/-- The condition of the step's branch is that the step is the first. -/
theorem cond1_iff (i : grid1.Coords) : Iff (k1_cond1 i = 1#1) ((i 0).val = 0) := by
  have h : ∀ t : Fin 96, Iff (Scalar.cmpi .ne (Scalar.extui (Scalar.cmpi .eq (BitVec.ofNat 32 t.val) 0#32) : BitVec 32) 0#32 = 1#1) (t.val = 0) := by
    decide +kernel
  exact h (i 0)

variable (c : Dev nD) (i : grid1.Coords)
  (arg1 : Memref sig .tc .smem S24 .i32) (harg1 : arg1.IsWhole)
  (arg2 : Memref sig .tc .smem S24x2048 .i32) (harg2 : arg2.IsWhole) (arg3 : Memref sig .tc .smem S24x2048 .f32) (harg3 : arg3.IsWhole)
  (arg4 : Memref sig .tc .vmem S64x3584 .bf16) (harg4 : arg4.IsWhole)
  (arg5 : Memref sig .tc .vmem S1792x128 .f32) (harg5 : arg5.IsWhole) (arg6 : Memref sig .tc .smem S24 .i32) (harg6 : arg6.IsWhole)
  (x0 : Counts) (x1 : Rows (BitVec 32)) (x2 : Rows (F .f32))

include harg1 harg2 harg3 harg4 harg5 harg6 in
/-- The step's branch: after it every pointer is where the steps before left it, at zero in the first step. -/
theorem zero_run (s : Counts) (h6 : (i 0).val ≠ 0 → s = ptrs x0 x1 (i 0).val 0) (E : Set ℕ) :
    owns (c : Thread nD τ) arg6 fullShare s
      ⊢ wp frame (wpE (defs₀ (F := F)) 𝒱₀ (c : Thread nD τ) none) E
          (if k1_h1 : k1_cond1 i = 1#1 then
            Scf.Loop.for k1_t1_loop (k1_t1_ok i k1_h1) ⟨⟩ (k1_t1_body i arg1 harg1 arg2 harg2 arg3 harg3 arg4 harg4 arg5 harg5 arg6 harg6 k1_h1)
          else pure ⟨⟩)
          (fun _ => (owns (c : Thread nD τ) arg6 fullShare (ptrs x0 x1 (i 0).val 0) : sProp 𝕄)) := by
  by_cases h1 : k1_cond1 i = 1#1
  · rw [dif_pos h1]
    unfold owns
    iintro ⟨%f6, -, H6⟩
    iapply (Scf.wp_for Idealize.ShloMosaic.frame (wpE (defs₀ (F := F)) 𝒱₀ (c : Thread nD τ) none) E k1_t1_loop.lb k1_t1_loop.ub k1_t1_loop.st
      (k1_t1_ok i h1) ⟨⟩ (k1_t1_body i arg1 harg1 arg2 harg2 arg3 harg3 arg4 harg4 arg5 harg5 arg6 harg6 h1) (zeroInv c arg6)
      (zero_trip c i arg1 harg1 arg2 harg2 arg3 harg3 arg4 harg4 arg5 harg5 arg6 harg6 E h1))
    isplitl [H6]
    · unfold zeroInv
      iexists _; isplitr
      swap; · iexact H6
      ipureintro; intro y hy; exact absurd hy (Nat.not_lt_zero _)
    iintro %u H
    unfold zeroInv
    icases H with ⟨%f, %hf, H⟩
    iexists _; isplitr
    swap; · iexact H
    ipureintro
    funext y
    have h0 : (i 0).val = 0 := (cond1_iff i).mp h1
    refine (hf y ?_).trans ?_
    · exact lt_of_lt_of_eq (y 0).isLt (by decide +kernel)
    · unfold ptrs; rw [if_neg (Nat.not_lt_zero _), h0]; rfl
  · rw [dif_neg h1, h6 fun h0 => h1 ((cond1_iff i).mpr h0)]
    simp only [Prog.pure_eq_ret]
    iintro H
    rw [wp_ret]; imodintro
    iexact H

/-- A tile of the result, loaded off the accumulator with stride 28, is its part of the block. -/
theorem tile (f : arg5.view.ty.Contents (Elt F)) (ct : ℕ) (hct : ct < 28)
    (inb5 : ∀ a, S64x128.size a = 0 ∨ (![ct, 0] : Fin 2 → ℕ) a + (![28, 1] : Fin 2 → ℕ) a * (S64x128.size a - 1) < S1792x128.size a)
    (inb4 : ∀ a, (![0, 128 * ct] : Fin 2 → ℕ) a + S64x128.size a ≤ S64x3584.size a) (x : S64x128.Idx) :
    k1_pay1 (View.readAt (Elt F) arg5.view (⟨![ct, 0], S64x128.size, ![28, 1], inb5⟩ : LoadRect S1792x128) f) x
      = outBlk (arg5.view.read (Elt F) f) ((Rect.unit (s := S64x3584) ![0, 128 * ct] S64x128.size inb4).emb x) := by
  have h0 : (x 0).val < 64 := (x 0).isLt
  have h1 : (x 1).val < 128 := (x 1).isLt
  have e1 : ((Rect.unit (s := S64x3584) ![0, 128 * ct] S64x128.size inb4).emb x 1).val = 128 * ct + 1 * (x 1).val := rfl
  have e0 : ((Rect.unit (s := S64x3584) ![0, 128 * ct] S64x128.size inb4).emb x 0).val = 0 + 1 * (x 0).val := rfl
  unfold outBlk
  have ex : (ix2 ((Rect.unit (s := S64x3584) ![0, 128 * ct] S64x128.size inb4).emb x 0)
      ⟨((Rect.unit (s := S64x3584) ![0, 128 * ct] S64x128.size inb4).emb x 1).val % 128, Nat.mod_lt _ (by norm_num)⟩ : S64x128.Idx) = x := by
    refine (congrArg₂ ix2 (Fin.ext ?_) (Fin.ext ?_)).trans (eq_ix2 x).symm
    · rw [e0]; omega
    · show (_ : ℕ) % 128 = _
      rw [e1]; omega
  rw [ex]
  refine congrArg (fun w => k1_pay1 w x) (funext fun z => ?_)
  have h2 : (z 0).val < 64 := (z 0).isLt
  refine congrArg (arg5.view.read (Elt F) f) ((eq_ix2 _).trans (congrArg₂ ix2 (Fin.ext ?_) (Fin.ext ?_)))
  · show ct + 28 * (z 0).val = (28 * (z 0).val + (_ : ℕ) / 128) % 1792
    rw [e1]; omega
  · show 0 + 1 * (z 1).val = (z 1).val
    omega

set_option maxHeartbeats 2000000 in
theorem scatter_run (hs : Sorted x0 x1) (s : Counts) (h6 : (i 0).val ≠ 0 → s = ptrs x0 x1 (i 0).val 0) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare (outBlk (accW x0 x1 x2 (i 0).val 24))
            ∗ (∃ d, owns (c : Thread nD τ) arg5 fullShare d) ∗ owns (c : Thread nD τ) arg6 fullShare (ptrs x0 x1 (i 0).val 24)) -∗ K ⟨⟩))
      ⊢ wp frame (wpE (defs₀ (F := F)) 𝒱₀ (c : Thread nD τ) none) E
          (cc1_scatter i arg1 harg1 arg2 harg2 arg3 harg3 arg4 harg4 arg5 harg5 arg6 harg6) K := by
  simp only [cc1_scatter_eq_skeleton]; unfold cc1_scatter_skel
  simp only [k1_part1_eq_skeleton]; unfold k1_part1_skel
  iintro ⟨H1, H2, H3, ⟨%d4, H4⟩, ⟨%d5, H5⟩, H6, Hk⟩
  dsimp only
  rw [dite_bind]
  rw [Prog.bind_assoc]
  rw [wp_bind]
  iapply (wp_wand_r Idealize.ShloMosaic.frame (wpE (defs₀ (F := F)) 𝒱₀ (c : Thread nD τ) none) E)
  isplitl [H6]
  · iapply (zero_run c i arg1 harg1 arg2 harg2 arg3 harg3 arg4 harg4 arg5 harg5 arg6 harg6 x0 x1 s h6 E)
    iexact H6
  iintro %u H6
  unfold owns
  icases H4 with ⟨%f4, -, H4⟩
  icases H5 with ⟨%f5, -, H5⟩
  sl_exec
  have hz : arg5.view.read (Elt F) (arg5.view.writes (Elt F) f5
      [⟨Rect.unit (s := S1792x128) ![0, 0] S1792x128.size inb_S1792x128_S1792x128_0_0, (k1_pay5 (F := F))⟩]) = accW x0 x1 x2 (i 0).val 0 := by
    funext y
    exact View.read_writes_cons_unit_of_mem arg5.view f5 inb_S1792x128_S1792x128_0_0 (k1_pay5 (F := F)) [] y y rfl
      (Fin.forall_fin_two.mpr ⟨(Nat.zero_add _).symm, (Nat.zero_add _).symm⟩)
  rw [Prog.bind_assoc]
  iapply (Scf.wp_for_bind Idealize.ShloMosaic.frame (wpE (defs₀ (F := F)) 𝒱₀ (c : Thread nD τ) none) E k1_t2_loop.lb k1_t2_loop.ub k1_t2_loop.st
    k1_t2_ok ⟨⟩ (k1_t2_body i arg1 harg1 arg2 harg2 arg3 harg3 arg4 harg4 arg5 harg5 arg6 harg6 lanes)
    (rowInv c arg1 arg2 arg3 arg5 arg6 x0 x1 x2 (i 0).val)
    (row_trip c i arg1 harg1 arg2 harg2 arg3 harg3 arg4 harg4 arg5 harg5 arg6 harg6 x0 x1 x2 E hs)) $$ [H1 H2 H3 H5 H6]
  · unfold rowInv held owns
    isplitl [H1]; · iexact H1
    isplitl [H2 H3 H5]
    · isplitl [H2]; · iexact H2
      isplitl [H3]; · iexact H3
      iexists _; isplitr
      swap; · iexact H5
      ipureintro; exact hz
    iexact H6
  iintro %v H
  rw [show (Scf.trips k1_t2_loop.lb k1_t2_loop.ub k1_t2_loop.st) = 24 by decide +kernel]
  unfold rowInv held owns
  icases H with ⟨H1, ⟨H2, H3, ⟨%g5, %hg5, H5⟩⟩, H6⟩
  sl_exec
  rw [wp_ret]; imodintro
  iapply Hk
  isplitl [H1]; · iexact H1
  isplitl [H2]; · iexact H2
  isplitl [H3]; · iexact H3
  isplitl [H4]
  · iexists _; isplitr
    swap; · iexact H4
    ipureintro
    rw [← hg5]
    funext y
    refine View.read_writes_apply_of_pieces arg4.view f4 _ _ (View.PiecesOf.mem ?_) y
      (View.cover_of_tiledL (s := S64x3584) _ S64x128.size (by sl_kernel_rfl) y)
    have T := fun (ct : ℕ) (hct : ct < 28) => tile arg5 g5 ct hct
      (Fin.forall_fin_two.mpr ⟨.inr (show ct + 28 * 63 < 1792 by omega), .inr (show 0 + 1 * 127 < 128 by norm_num)⟩)
      (Fin.forall_fin_two.mpr ⟨show 0 + 64 ≤ 64 by norm_num, show 128 * ct + 128 ≤ 3584 by omega⟩)
    exact ⟨T 27 (by norm_num), T 26 (by norm_num), T 25 (by norm_num), T 24 (by norm_num), T 23 (by norm_num), T 22 (by norm_num), T 21 (by norm_num), T 20 (by norm_num),
      T 19 (by norm_num), T 18 (by norm_num), T 17 (by norm_num), T 16 (by norm_num), T 15 (by norm_num), T 14 (by norm_num), T 13 (by norm_num), T 12 (by norm_num),
      T 11 (by norm_num), T 10 (by norm_num), T 9 (by norm_num), T 8 (by norm_num), T 7 (by norm_num), T 6 (by norm_num), T 5 (by norm_num), T 4 (by norm_num),
      T 3 (by norm_num), T 2 (by norm_num), T 1 (by norm_num), T 0 (by norm_num), trivial⟩
  isplitl [H5]
  · iexists _, _; isplitr
    swap; · iexact H5
    ipureintro; rfl
  iexact H6

end Cert.Kernel.Scatter

end
-- ==== Proof.P.Region.lean ====
/-
  The two pipelines of the kernel: what each holds at a grid step, and that its body carries one step to the next. The
  decode runs once over whole arrays. The scatter carries the pointers of the 24 rows from step to step.
-/
module

public import proofs.«01_k».proof.Proof.P.Body
public import proofs.«01_k».proof.Proof.Gen.Kernel.Launch
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value

@[expose] public section

set_option maxRecDepth 16384

noncomputable section

namespace Cert.Kernel.Scatter

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Scatter

variable {F : FTy → Type} [FloatOps F]

local notation "𝕄" => MT nD τ sig Unit (Elt F) ℕ (UR sig nD τ) ℕ

section Regions
-- the buffers' contents when a pipeline is entered
variable (V : (c : Dev nD) → (b : Ref sig .tc) → Buf (Elt F) ((c : Thread nD τ).loc b))

/-! # The decode -/

/-! ## The windows' blocks -/

/-- Window `w`'s block at point `t`, read off its array as the region finds it (`V`). -/
def iblk0 (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V c (Pipeline.arrRef spec0 w))

/-- Input window 0's buffer holds its block, for proof data over these arrays that leave it in place. -/
theorem before0_0_of {c : Dev nD} (dat : Dat τ (Elt F) Unit ℕ (UR sig nD τ) ℕ (cfg0 (F := F)) c) (hA : dat.A 0 = V c (Pipeline.arrRef spec0 0))
    (hafter : ∀ t, dat.after 0 t = iblk0 V c 0 t) (t : Fin (cfg0 (F := F)).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block, for proof data over these arrays that leave it in place. -/
theorem before0_1_of {c : Dev nD} (dat : Dat τ (Elt F) Unit ℕ (UR sig nD τ) ℕ (cfg0 (F := F)) c) (hA : dat.A 1 = V c (Pipeline.arrRef spec0 1))
    (hafter : ∀ t, dat.after 1 t = iblk0 V c 1 t) (t : Fin (cfg0 (F := F)).N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S24x2048 := Rect.unit (s := S24x2048) ![0, 0] S24x2048.size inb_S24x2048_S24x2048_0_0
abbrev r0_1 : Rect S24x2 := Rect.unit (s := S24x2) ![0, 0] S24x1.size inb_S24x2_S24x1_0_0
abbrev r0_2 : Rect S24x2048 := Rect.unit (s := S24x2048) ![0, 0] S24x1024.size inb_S24x2048_S24x1024_0_0
abbrev r0_3 : Rect S24x2 := Rect.unit (s := S24x2) ![0, 1] S24x1.size inb_S24x2_S24x1_0_1
abbrev r0_4 : Rect S24x2048 := Rect.unit (s := S24x2048) ![0, 1024] S24x1024.size inb_S24x2048_S24x1024_0_1024

/-! ## What the body leaves in each output window's buffer -/

/-- The output's buffer after the body: its two stores, the last first. -/
def out0_2 (x0 : Vec F S24x2048 .fp8e5m2) (x1 : Vec F S24x2 .f32) : Vec F S24x2048 .f32 :=
  View.canon [⟨r0_4, k0_pay3 (View.ld x0 r0_0) (View.ld x1 r0_3)⟩,
    ⟨r0_2, k0_pay2 (View.ld x0 r0_0) (View.ld x1 r0_1)⟩]

/-- The two stores cover the buffer. -/
theorem cover0_2 (p0 : Vec F S24x1024 .f32) (p1 : Vec F S24x1024 .f32) (y : S24x2048.Idx) :
    ∃ pc ∈ ([⟨r0_4, p0⟩, ⟨r0_2, p1⟩] : List (View.Piece (Elt F) S24x2048 .f32)), y ∈ pc.1.set :=
  View.cover_of_tiled [⟨r0_4, p0⟩, ⟨r0_2, p1⟩] S24x1024.size (by rfl) y

/-! ## The body's triple -/

set_option maxHeartbeats 1000000 in
/-- The decode's body: the inputs stay, the output holds the two stores. -/
theorem sound_kernel0 (c : Dev nD) (E : Set ℕ) (arg0 : Memref sig .tc .vmem S24x2048 .fp8e5m2) (harg0 : arg0.IsWhole) (arg1 : Memref sig .tc .vmem S24x2 .f32) (harg1 : arg1.IsWhole) (arg2 : Memref sig .tc .vmem S24x2048 .f32) (harg2 : arg2.IsWhole)
    (x0 : Vec F S24x2048 .fp8e5m2) (x1 : Vec F S24x2 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) 𝒱₀ (c : Thread nD τ) none) E (cc0_decode arg0 harg0 arg1 harg1 arg2 harg2) K := by
  simp only [cc0_decode_eq_skeleton]; unfold cc0_decode_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The pipeline's proof data -/

/-- The decode's pipeline: the arrays as entered, the inputs' blocks left in place, the output's block stored. -/
def dat0 (c : Dev nD) : Dat τ (Elt F) Unit ℕ (UR sig nD τ) ℕ (cfg0 (F := F)) c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays are the contents at entry. -/
theorem A_eq0 (c : Dev nD) (w : Fin (cfg0 (F := F)).W) : (dat0 V c).A w = V c (Pipeline.arrRef spec0 w) := by
  dsimp only [dat0]

/-- What the body leaves, window by window. -/
theorem after0_0 (c : Dev nD) (t : Fin (cfg0 (F := F)).N) : (dat0 V c).after 0 t = iblk0 V c 0 t := by dsimp only [dat0]; rfl
theorem after0_1 (c : Dev nD) (t : Fin (cfg0 (F := F)).N) : (dat0 V c).after 1 t = iblk0 V c 1 t := by dsimp only [dat0]; rfl
theorem after0_2 (c : Dev nD) (t : Fin (cfg0 (F := F)).N) : (dat0 V c).after 2 t = out0_2 (iblk0 V c 0 t) (iblk0 V c 1 t) := by dsimp only [dat0]; rfl

/-- Each input's buffer holds its block before the body. -/
theorem before0_0 (c : Dev nD) (t : Fin (cfg0 (F := F)).N) (d) : (dat0 V c).before 0 t d = iblk0 V c 0 t :=
  before0_0_of V (dat0 V c) (A_eq0 V c 0) (after0_0 V c) t d
theorem before0_1 (c : Dev nD) (t : Fin (cfg0 (F := F)).N) (d) : (dat0 V c).before 1 t d = iblk0 V c 1 t :=
  before0_1_of V (dat0 V c) (A_eq0 V c 1) (after0_1 V c) t d

/-! ## The body obligation, at a generic point -/

/-- What the body is called with at a step, -/
def bodyPre0 (c : Dev nD) (t : Fin (cfg0 (F := F)).N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin (cfg0 (F := F)).N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at a step. -/
theorem sound_body0 (c : Dev nD) (t : Fin (cfg0 (F := F)).N) :
    bodyPre0 V c t ⊢ wp frame (wpE (defs₀ (F := F)) 𝒱₀ (c : Thread nD τ) none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body the pipeline calls at a step. -/
theorem defs₀_row0 (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body's triple as the pipeline asks for it. -/
theorem body_obligation0 (c : Dev nD) : BodyObligation (dat0 (F := F) V c) (defs₀ (F := F)) 𝒱₀ () Set.univ := fun t => by
  rw [bigSep_W0, bigSep_W0, defs₀_row0]
  exact triple_restated (sound_body0 V c t) rfl .rfl fun _ => .rfl

/-! # The scatter -/

/-- Window `w`'s block at point `t`, read off its array as the region finds it (`V`). -/
def iblk1 (c : Dev nD) (w : Fin (cfg1 (F := F)).W) (t : Fin (cfg1 (F := F)).N) : (((cfg1 (F := F)).win w).xblock ((cfg1 (F := F)).grid.coords t)).Idx → Elt F ((cfg1 (F := F)).win w).elt :=
  (((cfg1 (F := F)).win w).blk t).view.read (Elt F) (V c (Pipeline.arrRef spec1 w))

/-- Input window 0's buffer holds its block, for proof data over these arrays that leave it in place. -/
theorem before1_0_of {c : Dev nD} (dat : Dat τ (Elt F) Unit ℕ (UR sig nD τ) ℕ (cfg1 (F := F)) c) (hA : dat.A 0 = V c (Pipeline.arrRef spec1 0))
    (hafter : ∀ t, dat.after 0 t = iblk1 V c 0 t) (t : Fin (cfg1 (F := F)).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's buffer holds its block, for proof data over these arrays that leave it in place. -/
theorem before1_1_of {c : Dev nD} (dat : Dat τ (Elt F) Unit ℕ (UR sig nD τ) ℕ (cfg1 (F := F)) c) (hA : dat.A 1 = V c (Pipeline.arrRef spec1 1))
    (hafter : ∀ t, dat.after 1 t = iblk1 V c 1 t) (t : Fin (cfg1 (F := F)).N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's buffer holds its block, for proof data over these arrays that leave it in place. -/
theorem before1_2_of {c : Dev nD} (dat : Dat τ (Elt F) Unit ℕ (UR sig nD τ) ℕ (cfg1 (F := F)) c) (hA : dat.A 2 = V c (Pipeline.arrRef spec1 2))
    (hafter : ∀ t, dat.after 2 t = iblk1 V c 2 t) (t : Fin (cfg1 (F := F)).N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's buffer at a step, and that it is whole. -/
abbrev ms1_0 (t : Fin (cfg1 (F := F)).N) : Memref sig .tc .smem S24 .i32 := win1_0.stage ((cfg1 (F := F)).slots t 0)
abbrev hs1_0 (t : Fin (cfg1 (F := F)).N) : (ms1_0 t).IsWhole := hstage1_0 (((cfg1 (F := F)).slots t 0).cast nbuf1_0)
abbrev ms1_1 (t : Fin (cfg1 (F := F)).N) : Memref sig .tc .smem S24x2048 .i32 := win1_1.stage ((cfg1 (F := F)).slots t 1)
abbrev hs1_1 (t : Fin (cfg1 (F := F)).N) : (ms1_1 t).IsWhole := hstage1_1 (((cfg1 (F := F)).slots t 1).cast nbuf1_1)
abbrev ms1_2 (t : Fin (cfg1 (F := F)).N) : Memref sig .tc .smem S24x2048 .f32 := win1_2.stage ((cfg1 (F := F)).slots t 2)
abbrev hs1_2 (t : Fin (cfg1 (F := F)).N) : (ms1_2 t).IsWhole := hstage1_2 (((cfg1 (F := F)).slots t 2).cast nbuf1_2)
abbrev ms1_3 (t : Fin (cfg1 (F := F)).N) : Memref sig .tc .vmem S64x3584 .bf16 := win1_3.stage ((cfg1 (F := F)).slots t 3)
abbrev hs1_3 (t : Fin (cfg1 (F := F)).N) : (ms1_3 t).IsWhole := hstage1_3 (((cfg1 (F := F)).slots t 3).cast nbuf1_3)

/-- A step is its own coordinate. -/
theorem coord_val (t : Fin (cfg1 (F := F)).N) : ((cfg1 (F := F)).grid.coords t 0).val = t.val := by
  have h : ∀ t : Fin grid1.N, (grid1.coords t 0).val = t.val := by decide +kernel
  exact h t

/-- The counts, the indices and the decoded values the scatter is entered with. -/
abbrev X0 (c : Dev nD) : Counts := V c main_arg3
abbrev X1 (c : Dev nD) : Rows (BitVec 32) := V c main_arg0
abbrev X2 (c : Dev nD) : Rows (F .f32) := V c main_v0

/-- An input's block is its whole array. -/
theorem iblk1_0 (c : Dev nD) (t : Fin (cfg1 (F := F)).N) : iblk1 V c 0 t = X0 V c :=
  funext fun y => congrArg (V c main_arg3) (funext fun a => Fin.ext (win1_0.rect_emb_val_of_index_zero t a (by fin_cases a; rfl) y))
theorem iblk1_1 (c : Dev nD) (t : Fin (cfg1 (F := F)).N) : iblk1 V c 1 t = X1 V c :=
  funext fun y => congrArg (V c main_arg0) (funext fun a => Fin.ext (win1_1.rect_emb_val_of_index_zero t a (by fin_cases a <;> rfl) y))
theorem iblk1_2 (c : Dev nD) (t : Fin (cfg1 (F := F)).N) : iblk1 V c 2 t = X2 V c :=
  funext fun y => congrArg (V c main_v0) (funext fun a => Fin.ext (win1_2.rect_emb_val_of_index_zero t a (by fin_cases a <;> rfl) y))

/-- Every pointer is walked by the end of a step. -/
theorem ptrs_next (x0 : Counts) (x1 : Rows (BitVec 32)) (t : ℕ) : ptrs x0 x1 t 24 = ptrs x0 x1 (t + 1) 0 := by
  funext y
  have hy : (y 0).val < 24 := (y 0).isLt
  unfold ptrs
  rw [if_pos hy, if_neg (Nat.not_lt_zero _)]

/-- What the scatter carries from step to step: the decode's buffers and the accumulator at anything, the pointers where
    the steps before left them, and the generator's register. -/
def Φ1 (c : Dev nD) (t : ℕ) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ d, owns (c : Thread nD τ) (Memref.whole cc1_scratch0) fullShare d)
    ∗ (∃ s, ⌜t ≠ 0 → s = ptrs (X0 V c) (X1 V c) t 0⌝ ∗ owns (c : Thread nD τ) (Memref.whole cc1_scratch1) fullShare s)
    ∗ ∃ r, prngReg c r)

/-- The scatter's pipeline: the arrays as entered, the inputs' blocks left in place, the output's block read off the
    step's accumulator. -/
def dat1 (c : Dev nD) : Dat τ (Elt F) Unit ℕ (UR sig nD τ) ℕ (cfg1 (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outBlk (accW (X0 V c) (X1 V c) (X2 V c) t.val 24)
  Φ t := Φ1 V c t.val
  q _ := fullShare
  owed _ := 0

/-- The arrays are the contents at entry. -/
theorem A_eq1 (c : Dev nD) (w : Fin (cfg1 (F := F)).W) : (dat1 V c).A w = V c (Pipeline.arrRef spec1 w) := by
  dsimp only [dat1]

/-- What the body leaves, window by window. -/
theorem after1_0 (c : Dev nD) (t : Fin (cfg1 (F := F)).N) : (dat1 V c).after 0 t = iblk1 V c 0 t := by dsimp only [dat1]; rfl
theorem after1_1 (c : Dev nD) (t : Fin (cfg1 (F := F)).N) : (dat1 V c).after 1 t = iblk1 V c 1 t := by dsimp only [dat1]; rfl
theorem after1_2 (c : Dev nD) (t : Fin (cfg1 (F := F)).N) : (dat1 V c).after 2 t = iblk1 V c 2 t := by dsimp only [dat1]; rfl
theorem after1_3 (c : Dev nD) (t : Fin (cfg1 (F := F)).N) : (dat1 V c).after 3 t = outBlk (accW (X0 V c) (X1 V c) (X2 V c) t.val 24) := by dsimp only [dat1]; rfl

/-- Each input's buffer holds its block before the body. -/
theorem before1_0 (c : Dev nD) (t : Fin (cfg1 (F := F)).N) (d) : (dat1 V c).before 0 t d = iblk1 V c 0 t :=
  before1_0_of V (dat1 V c) (A_eq1 V c 0) (after1_0 V c) t d
theorem before1_1 (c : Dev nD) (t : Fin (cfg1 (F := F)).N) (d) : (dat1 V c).before 1 t d = iblk1 V c 1 t :=
  before1_1_of V (dat1 V c) (A_eq1 V c 1) (after1_1 V c) t d
theorem before1_2 (c : Dev nD) (t : Fin (cfg1 (F := F)).N) (d) : (dat1 V c).before 2 t d = iblk1 V c 2 t :=
  before1_2_of V (dat1 V c) (A_eq1 V c 2) (after1_2 V c) t d

/-! ## The body obligation, at a generic point -/

/-- What the body is called with at a step, -/
def bodyPre1 (c : Dev nD) (t : Fin (cfg1 (F := F)).N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin (cfg1 (F := F)).N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at a step. -/
theorem sound_body1 (c : Dev nD) (hs : Sorted (X0 V c) (X1 V c)) (t : Fin (cfg1 (F := F)).N) :
    bodyPre1 V c t ⊢ wp frame (wpE (defs₀ (F := F)) 𝒱₀ (c : Thread nD τ) none) Set.univ (bodyAt1 t) (fun _ => bodyPost1 V c t) := by
  unfold bodyPre1 bodyPost1 bodyAt1
  simp only [before1_0, before1_1, before1_2]
  rw [show (dat1 V c).Φ t.succ = Φ1 V c (t.val + 1) from rfl, show (dat1 V c).Φ t.castSucc = Φ1 V c t.val from rfl,
    show (dat1 V c).owesAt () t.succ = (dat1 V c).owesAt () t.castSucc from rfl,
    after1_0, after1_1, after1_2, after1_3]
  simp only [iblk1_0, iblk1_1, iblk1_2]
  unfold Φ1
  iintro ⟨⟨Ha, Hb, Hc, ⟨%d5, H5⟩, ⟨%s, %hp, H6⟩, Hr⟩, Ho, ⟨%d0, H0⟩, ⟨%d1, H1⟩, ⟨%d2, H2⟩, ⟨%d3, H3⟩⟩
  iapply (scatter_run c (grid1.coords t) _ (hs1_0 t) _ (hs1_1 t) _ (hs1_2 t) _ (hs1_3 t) _ (Memref.isWhole_whole _) _ (Memref.isWhole_whole _)
    (X0 V c) (X1 V c) (X2 V c) hs s (by rw [coord_val (F := F) t]; exact hp) Set.univ _)
  rw [coord_val (F := F) t, ptrs_next]
  isplitl [H0]; · iexact H0
  isplitl [H1]; · iexact H1
  isplitl [H2]; · iexact H2
  isplitl [H3]; · iexists _; iexact H3
  isplitl [H5]; · iexists _; iexact H5
  isplitl [H6]; · iexact H6
  iintro ⟨H0, H1, H2, H3, H5, H6⟩
  isplitl [Ha Hb Hc H5 H6 Hr]
  · isplitl [Ha]; · iexact Ha
    isplitl [Hb]; · iexact Hb
    isplitl [Hc]; · iexact Hc
    isplitl [H5]; · iexact H5
    isplitl [H6]
    · iexists _; isplitr
      swap; · iexact H6
      ipureintro; exact fun _ => rfl
    iexact Hr
  isplitl [Ho]; · iexact Ho
  isplitl [H0]; · iexact H0
  isplitl [H1]; · iexact H1
  isplitl [H2]; · iexact H2
  iexact H3

/-- The body the pipeline calls at a step. -/
theorem defs₀_row1 (t : Fin (cfg1 (F := F)).N) :
    defs₀ (F := F) .tc (cfg1 (F := F)).body ((cfg1 (F := F)).bodyArgs t ((cfg1 (F := F)).slots t)) = bodyAt1 t := by
  unfold defs₀; rw [Defs.onTc_tc]

/-- The body's triple as the pipeline asks for it. -/
theorem body_obligation1 (c : Dev nD) (hs : Sorted (X0 V c) (X1 V c)) : BodyObligation (dat1 (F := F) V c) (defs₀ (F := F)) 𝒱₀ () Set.univ := fun t => by
  rw [bigSep_W1, bigSep_W1, defs₀_row1]
  exact triple_restated (sound_body1 V c hs t) rfl .rfl fun _ => .rfl

/-- The scatter's pipeline from its scratch at anything, -/
theorem Φ1_in (c : Dev nD) : iprop((∃ r, prngReg c r) ∗ Pipeline.scopedRest (Ix := Unit) (Name := ℕ) (U := UR sig nD τ) (Lvl := ℕ) (Val := Elt F) spec1 c) ⊢ Φ1 V c 0 := by
  rw [scopedRest1_eq]; unfold Φ1
  simp only [owns_whole]
  iintro ⟨Hr, Ha, Hb, Hc, ⟨%f5, H5⟩, ⟨%f6, H6⟩⟩
  isplitl [Ha]; · iexact Ha
  isplitl [Hb]; · iexact Hb
  isplitl [Hc]; · iexact Hc
  isplitl [H5]; · iexists f5; iexact H5
  isplitl [H6]
  · iexists f6; isplitr
    swap; · iexact H6
    ipureintro; exact fun h => absurd rfl h
  iexact Hr

/-- and back to it. -/
theorem Φ1_out (c : Dev nD) (t : ℕ) : Φ1 V c t ⊢ iprop((∃ r, prngReg c r) ∗ Pipeline.scopedRest (Ix := Unit) (Name := ℕ) (U := UR sig nD τ) (Lvl := ℕ) (Val := Elt F) spec1 c) := by
  rw [scopedRest1_eq]; unfold Φ1
  simp only [owns_whole]
  iintro ⟨Ha, Hb, Hc, ⟨%f5, H5⟩, ⟨%f6, -, H6⟩, Hr⟩
  isplitl [Hr]; · iexact Hr
  isplitl [Ha]; · iexact Ha
  isplitl [Hb]; · iexact Hb
  isplitl [Hc]; · iexact Hc
  isplitl [H5]; · iexists f5; iexact H5
  iexists f6; iexact H6

end Regions

end Cert.Kernel.Scatter

end
-- ==== Proof.P.Run.lean ====
/-
  The whole run: the decode, then the scatter. Where the rows are sorted every execution ends with the arguments
  unchanged, every counter at zero and the result at what the scatter's pipeline leaves.
-/
module

public import proofs.«01_k».proof.Proof.P.Region

@[expose] public section

set_option maxRecDepth 16384

noncomputable section

namespace Cert.Kernel.Scatter

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Scatter

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers between the pipelines -/

/-- @main's argument arrays, as TensorCore references: what the frame claim reads back. -/
abbrev argRefs : List (Ref sig .tc) := [main_arg0, main_arg1, main_arg2, main_arg3]

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- After the decode: its arrays at what it leaves, every other buffer as launched. -/
def W1 (c : Dev nD) : Valuation τ sig (Elt F) :=
  Pipeline.withArrays spec0 c (W0 m ρ c) fun w => (dat0 (V0 m ρ) c).arrAt w (cfg0 (F := F)).N
theorem W1_arr (c : Dev nD) (w : Fin (cfg0 (F := F)).W) :
    W1 m ρ c (Proc.devRef .tc (Pipeline.arrRef spec0 w)) = (dat0 (V0 m ρ) c).arrAt w (cfg0 (F := F)).N := by
  unfold W1; exact Pipeline.withArrays_arr spec0 (launch0 (F := F)).win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A buffer that is not its output keeps its contents. -/
theorem W1_of (c : Dev nD) (r : Ref sig .tc) (h : ∀ w : Fin (cfg0 (F := F)).W, Pipeline.arrRef spec0 w = r → ((cfg0 (F := F)).win w).isOut = false) :
    W1 m ρ c (Proc.devRef .tc r) = W0 m ρ c (Proc.devRef .tc r) := by
  by_cases hw : ∃ w : Fin (cfg0 (F := F)).W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Its output is no argument. -/
theorem argsIn0 : ∀ a ∈ argRefs, ∀ w : Fin 3, Pipeline.arrRef spec0 w = a → (win0 w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- The same, as the launch asks for it. -/
theorem hF0 (c : Dev nD) (w : Fin (cfg0 (F := F)).W) : (dat0 (V0 m ρ) c).arrAt w (cfg0 (F := F)).N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the scatter: its arrays at what it leaves, every other buffer as before it. -/
def W2 (c : Dev nD) : Valuation τ sig (Elt F) :=
  Pipeline.withArrays spec1 c (W1 m ρ c) fun w => (dat1 (V1 m ρ) c).arrAt w (cfg1 (F := F)).N
theorem W2_arr (c : Dev nD) (w : Fin (cfg1 (F := F)).W) :
    W2 m ρ c (Proc.devRef .tc (Pipeline.arrRef spec1 w)) = (dat1 (V1 m ρ) c).arrAt w (cfg1 (F := F)).N := by
  unfold W2; exact Pipeline.withArrays_arr spec1 (launch1 (F := F)).win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A buffer that is not its output keeps its contents. -/
theorem W2_of (c : Dev nD) (r : Ref sig .tc) (h : ∀ w : Fin (cfg1 (F := F)).W, Pipeline.arrRef spec1 w = r → ((cfg1 (F := F)).win w).isOut = false) :
    W2 m ρ c (Proc.devRef .tc r) = W1 m ρ c (Proc.devRef .tc r) := by
  by_cases hw : ∃ w : Fin (cfg1 (F := F)).W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Its output is no argument. -/
theorem argsIn1 : ∀ a ∈ argRefs, ∀ w : Fin 4, Pipeline.arrRef spec1 w = a → (win1 w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- The same, as the launch asks for it. -/
theorem hF1 (c : Dev nD) (w : Fin (cfg1 (F := F)).W) : (dat1 (V1 m ρ) c).arrAt w (cfg1 (F := F)).N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! The arguments end as launched. -/

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)
theorem W2_main_arg2 (c : Dev nD) : W2 m ρ c (Proc.devRef .tc main_arg2) = m ((c : Thread nD τ).loc main_arg2) :=
  W2_args m ρ c main_arg2 (by decide)
theorem W2_main_arg3 (c : Dev nD) : W2 m ρ c (Proc.devRef .tc main_arg3) = m ((c : Thread nD τ).loc main_arg3) :=
  W2_args m ρ c main_arg3 (by decide)

/-! ## The proof data family and the thread state -/

/-- There are no prefetched tables. -/
abbrev adm : (p : Fin 2) → (pcfgs (F := F) p).Adm := fun p => ((cfgs (F := F)) p).toPCfg_adm
/-- Both pipelines. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
/-- No core owes another anything: no level is assigned. -/
abbrev L : GSem nD τ sig → Finset Unit := fun _ => ∅
abbrev lv : GSem nD τ sig → Unit → ℕ := fun _ _ => 0
/-- What rides beside the buffers: the generator's register, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the end: every buffer at its last contents, the generator's register at some state. -/
abbrev Tₙ (c : Dev nD) : sProp 𝕄 := iprop(StableHlo.held (c : Thread nD τ) (Pipeline.ucRefs τ sig) (W2 m ρ c) ∗ ∃ r, prngReg c r)

/-! ## The regions as segments -/

-- the library states its lemmas over the pinned configuration, which unification has to unfold
set_option backward.isDefEq.respectTransparency.types false in
/-- The decode, from the launch to the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · (cfg0 (F := F)).N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library states its lemmas over the pinned configuration, which unification has to unfold
set_option backward.isDefEq.respectTransparency.types false in
/-- The scatter, from the contents after the decode to the end. -/
def reg1 (hs : ∀ c, Sorted (X0 (V1 m ρ) c) (X1 (V1 m ρ) c)) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c (hs c)).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V1 m ρ) c 0 from rfl]
    iintro ⟨Hp, -, Hr⟩
    iapply (Φ1_in (V1 m ρ) c)
    isplitl [Hp]; · iexact Hp
    iexact Hr
  hout c := by
    rw [Pipeline.ownSems0_none, show (pdats m ρ 1 c).Φ (Fin.last _) = Φ1 (V1 m ρ) c ((cfg1 (F := F)).N) from rfl]
    iintro H
    ihave H' := (Φ1_out (V1 m ρ) c _) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · (cfg1 (F := F)).N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- The program is the two pipelines in order. -/
abbrev segs (hs : ∀ c, Sorted (X0 (V1 m ρ) c) (X1 (V1 m ρ) c)) : List (Pipeline.Seg (pcfgs (F := F)) adm (pdats m ρ) () defs₀ 𝒱₀ L lv) :=
  [ .region (reg0 m ρ),
    .region (reg1 m ρ hs) ]
/-- The same, as the launch asks for it. -/
theorem main_run (hs : ∀ c, Sorted (X0 (V1 m ρ) c) (X1 (V1 m ρ) c)) (c : Dev nD) : main (F := F) c = Pipeline.Seg.run (segs m ρ hs) := (main_chain c).trans (by chain_rfl)

/-- The TensorCore has no unscoped semaphore. -/
theorem no_unscoped : ∀ sm : SemLoc sig, sm.isScoped .tc = true := by decide

-- the launch's implicit arguments are found by unifying its conclusion, which has to unfold the configuration
set_option backward.isDefEq.respectTransparency.types false in
/-- Every run ends, the arguments unchanged, the counters at zero and the result at what the scatter's pipeline leaves. -/
theorem run (hs : ∀ c, Sorted (X0 (V1 m ρ) c) (X1 (V1 m ρ) c)) : θ_run defs (onTc (τ := τ) (main (F := F))) ⟨m, fun _ => 0, ρ⟩ (fun r => (∀ c : Dev nD,
      r.2.mem ((c.tc : Thread nD τ).loc main_v1) = (dat1 (V1 m ρ) c).arrAt 3 (cfg1 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ hs)
    (fun c Q => by rw [main_run m ρ hs c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (cfgs (F := F)) cellOf_inj) (Pipeline.launchToks (cfgs (F := F)) cellOf_inj))
    (hu₀ := by
      iintro Hu; imodintro
      isplitl [Hu]
      · iapply (show (ownU (initOf (Pipeline.cells (cfgs (F := F)) cellOf_inj) (Pipeline.launchToks (cfgs (F := F)) cellOf_inj)) : sProp 𝕄)
            ⊢ BI.own (emb₁ (initOf (Pipeline.cells (cfgs (F := F)) cellOf_inj) (Pipeline.launchToks (cfgs (F := F)) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨(h c _ (mem_uc main_v1 (by decide))).trans (W2_arr m ρ c 3),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩), funext fun g => hz g (.inr (no_unscoped g.2))⟩)

end Cert.Kernel.Scatter

end
-- ==== Proof.PI.State.lean ====
/-
  What one grid step of the scatter leaves, as functions of the counts `x0`, the positions `x1` and the dequantised
  values `x2`: the accumulator after the step's walks (`accW`), each entry folded by `put`, and the block of the result
  read off it (`outBlk`).
-/
module

public import proofs.«01_k».proof.Proof.Gen.KernelIdeal.Skeleton
public import proofs.«01_k».proof.Proof.Words

@[expose] public section

noncomputable section

namespace Cert.KernelIdeal.Scatter

open Idealize.ShloMosaic Idealize.ShloMosaic.ValueIdx
open Cert.KernelIdeal Cert.KernelIdeal.Gen Cert.Scatter

variable {F : FTy → Type} [FloatOps F]

/-- The lane numbers the kernel compares a position's lane with. -/
abbrev lanes : IVec S1x128 32 := iota .tc S1x128 32 [1] iota_S1x128_d1_w32

/-- The accumulator of step `t` with the value `v` at position `p` folded in: the position's row is stored over, the other
    rows stay. -/
def put (t : ℕ) (p : BitVec 32) (v : F .f32) (acc : FVec F S1792x128 .f32) : FVec F S1792x128 .f32 := fun y =>
  if (y 0).val = p.toNat / 128 - t * 1792 then
    k1_pay4 lanes p v (fun x : S1x128.Idx => acc (ix2 (y 0) (x 1))) (ix2 0 (y 1))
  else acc y

/-- The accumulator of step `t` after the walks of the first `w` rows. -/
def accW (x0 : Counts) (x1 : Rows (BitVec 32)) (x2 : Rows (F .f32)) (t : ℕ) : ℕ → FVec F S1792x128 .f32
  | 0 => k1_pay5
  | w + 1 => walk (go x0 x1 (((t + 1 : ℕ) : ℤ) * Scatter.step) w) (fun k => put t (cell x1 w k) (cell x2 w k))
      (2048 - ptr x0 x1 t w) (ptr x0 x1 t w) (accW x0 x1 x2 t w)

/-- The result's block read off the accumulator: column `128·ct + l` of row `r` is row `28·r + ct`, lane `l`. -/
def outBlk (acc : FVec F S1792x128 .f32) : FVec F S64x3584 .bf16 := fun y =>
  k1_pay1 (fun x : S64x128.Idx => acc (ix2 ⟨(28 * (x 0).val + (y 1).val / 128) % 1792, Nat.mod_lt _ (by norm_num)⟩ (x 1)))
    (ix2 (y 0) ⟨(y 1).val % 128, Nat.mod_lt _ (by norm_num)⟩)

end Cert.KernelIdeal.Scatter

end
-- ==== Proof.PI.While.lean ====
/-
  One row's walk: the label of the kernel's `scf.while`, at any staging buffers. Holding the positions and the values of
  every row and the accumulator, called at an entry number `j` at or below 2048, it returns the number where the walk
  stops and leaves the accumulator with every entry the walk passed folded in (`spec_le`, by induction on the entries
  left). The side conditions of its loads and of its store hold: an entry number is below 2048 where it is loaded from,
  and a position the test lets through lies in the step's range, since the entries from `j` on do not lie before it.
-/
module

public import proofs.«01_k».proof.Proof.PI.State
public import Idealize.ShloMosaic.Lib.Pipeline.Kit
public import Idealize.ShloMosaic.Lib.WritesUnit
public import Idealize.ShloMosaic.Lib.Tactic

@[expose] public section

noncomputable section

namespace Cert.KernelIdeal.Scatter

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Scatter

variable {F : FTy → Type} [FloatOps F]

local notation "𝕄" => MT nD τ sig Unit (Elt F) ℕ (UR sig nD τ) ℕ

/-- Variants: numbers, the entries a walk may still pass. -/
abbrev 𝒱₀ : Variants := Variants.nat

/-! ## The offsets -/

theorem off2_eq (kt : Fin k1_t2_loop.trips) : k1_off2 kt = ![kt.val] := by
  revert kt; decide +kernel

theorem off3_eq (kt : Fin k1_t2_loop.trips) {j : ℕ} (hj : j ≤ 2048) : k1_off3 kt (BitVec.ofNat 32 j) = ![kt.val, min j 2047] := by
  show ![k1_off2 kt 0, (Scalar.minsi (BitVec.ofNat 32 j) 2047#32).toNat] = _
  rw [toNat_minsi hj, off2_eq]; rfl

theorem off4_eq (kt : Fin k1_t2_loop.trips) {j : ℕ} (hj : j ≤ 2048) : k1_off4 kt (BitVec.ofNat 32 j) = ![kt.val, j] := by
  show ![k1_off2 kt 0, (BitVec.ofNat 32 j).toNat] = _
  rw [toNat_ofNat_le hj, off2_eq]; rfl

theorem trip_lt (kt : Fin k1_t2_loop.trips) : kt.val < 24 := Nat.lt_of_lt_of_le kt.isLt (by decide +kernel)

/-- The rectangle of one word at row `w`, column `j` reads that entry. -/
theorem read_cell {α : Type} (x : Rows α) {off : Fin 2 → ℕ} {w j : ℕ} (h : off = ![w, j])
    (inb : ∀ a, off a + (![1, 1] : Fin 2 → ℕ) a ≤ S24x2048.size a)
    (z : (Rect.unit (s := S24x2048) off ![1, 1] inb).shape.Idx) :
    x ((Rect.unit (s := S24x2048) off ![1, 1] inb).idx z) = cell x w j := by
  subst h
  have h0 : w + 1 ≤ 24 := inb 0
  have h1 : j + 1 ≤ 2048 := inb 1
  have z0 : (z 0).val < 1 := (z 0).isLt
  have z1 : (z 1).val < 1 := (z 1).isLt
  unfold cell
  refine congrArg x (funext fun a => Fin.ext ?_)
  fin_cases a
  · show w + 1 * (z 0).val = min w 23
    omega
  · show j + 1 * (z 1).val = min j 2047
    omega

/-- The accumulator read back after a store over its row `o`. -/
theorem read_row {sp : Space} (v : View sig .tc sp S1792x128 .f32) (f : v.ty.Contents (Elt F)) {o : ℕ} {off : Fin 2 → ℕ}
    (inb : ∀ a, off a + S1x128.size a ≤ S1792x128.size a) (h : off = ![o, 0]) (w : S1x128.Idx → F .f32) (y : S1792x128.Idx) :
    v.read (Elt F) ((v.slice (Rect.unit (s := S1792x128) off S1x128.size inb)).write (Elt F) f w Finset.univ) y
      = if (y 0).val = o then w (ix2 0 (y 1)) else v.read (Elt F) f y := by
  subst h
  refine (View.read_writes_cons_unit v f inb w [] y rfl).trans ?_
  have y1 : (y 1).val < 128 := (y 1).isLt
  by_cases hy : (y 0).val = o
  · rw [if_pos hy, dif_pos (Fin.forall_fin_two.mpr ⟨⟨hy.ge, by show (y 0).val < _ + 1; rw [hy]; exact Nat.lt_succ_self _⟩, Nat.zero_le _, by show (y 1).val < 0 + 128; omega⟩)]
    refine congrArg w (funext fun a => Fin.ext ?_)
    fin_cases a
    · show (y 0).val - o = 0
      omega
    · show (y 1).val - 0 = (y 1).val
      omega
  · rw [if_neg hy, dif_neg fun hall => hy ?_]
    · rfl
    · have h0 : o ≤ (y 0).val ∧ (y 0).val < o + 1 := hall 0
      omega

/-- A row of the accumulator stored over with the kernel's sum is `put`. -/
theorem read_put {sp : Space} {v : View sig .tc sp S1792x128 .f32} {f : v.ty.Contents (Elt F)} {acc : FVec F S1792x128 .f32}
    (hf : v.read (Elt F) f = acc) {t : ℕ} {p : BitVec 32} {x : F .f32} {off : Fin 2 → ℕ}
    (inb : ∀ a, off a + S1x128.size a ≤ S1792x128.size a) (h : off = ![p.toNat / 128 - t * 1792, 0]) :
    v.read (Elt F) ((v.slice (Rect.unit (s := S1792x128) off S1x128.size inb)).write (Elt F) f
        (k1_pay4 lanes p x (v.readAt (Elt F) (Rect.unit (s := S1792x128) off S1x128.size inb).toLoadRect f)) Finset.univ)
      = put t p x acc := by
  funext y
  rw [read_row v f inb h]
  unfold put
  split
  · rename_i hy
    have hrow : v.readAt (Elt F) (Rect.unit (s := S1792x128) off S1x128.size inb).toLoadRect f
        = (fun z : S1x128.Idx => acc (ix2 (y 0) (z 1))) := by
      subst h hf
      funext z
      show v.read (Elt F) f _ = _
      refine congrArg (v.read (Elt F) f) (funext fun a => Fin.ext ?_)
      have z0 : (z 0).val < 1 := (z 0).isLt
      fin_cases a
      · show p.toNat / 128 - t * 1792 + (1 * (z 0).val) = (y 0).val
        omega
      · show 0 + 1 * (z 1).val = (z 1).val
        omega
    rw [hrow]
  · rw [hf]

/-- A load of one word of the rows, at row `kt` and column `j`: the program continues at that entry. -/
theorem wp_load_cell {c : Dev nD} {bd : Option 𝒱₀.V} {E : Set ℕ} {e : EltTy} {m : Memref sig .tc .smem S24x2048 e}
    {off : Fin 2 → ℕ} {inb : ∀ a, off a + S1x1.size a ≤ S24x2048.size a}
    {hl : m.view.LoadsAt (Rect.unit (s := S24x2048) off S1x1.size inb).toLoadRect} {β : Type}
    {k : (S1x1.Idx → Elt F e) → Prog (TpuEff nD τ sig (Elt F) (Λ₀ F) .tc) β} {Q : β → sProp 𝕄}
    {f : Buf (Elt F) (m.view.loc (c : Thread nD τ))} {x : Rows (Elt F e)} {w j : ℕ} (hf : m.view.read (Elt F) f = x) (h : off = ![w, j]) :
    (m.view.loc (c : Thread nD τ) ↦[m.view.set]{fullShare} f)
      ⊢ iprop(((m.view.loc (c : Thread nD τ) ↦[m.view.set]{fullShare} f)
            -∗ wp frame (wpE (defs₀ (F := F)) 𝒱₀ (c : Thread nD τ) bd) E (k fun _ => cell x w j) Q)
        -∗ wp frame (wpE (defs₀ (F := F)) 𝒱₀ (c : Thread nD τ) bd) E
            (.op (.load m (Rect.unit (s := S24x2048) off S1x1.size inb).toLoadRect hl) k) Q) := by
  have hr : m.view.readAt (Elt F) (Rect.unit (s := S24x2048) off S1x1.size inb).toLoadRect f = fun _ => cell x w j := by
    subst hf; exact funext fun z => read_cell _ h inb z
  have hk : k (m.view.readAt (Elt F) (Rect.unit (s := S24x2048) off S1x1.size inb).toLoadRect f) = k fun _ => cell x w j :=
    congrArg k hr
  rw [← hk]
  exact wp_load 𝒱₀ (c : Thread nD τ) bd E (View.setOn_subset_set _ _)

/-! ## The label -/

section Label

variable (c : Dev nD) (i : grid1.Coords) (kt : Fin k1_t2_loop.trips) (n : BitVec 32)
  (arg2 : Memref sig .tc .smem S24x2048 .i32) (harg2 : arg2.IsWhole) (arg3 : Memref sig .tc .smem S24x2048 .f32) (harg3 : arg3.IsWhole)
  (arg5 : Memref sig .tc .vmem S1792x128 .f32) (harg5 : arg5.IsWhole)
  (x0 : Counts) (x1 : Rows (BitVec 32)) (x2 : Rows (F .f32))

/-- The three buffers the label reads and writes, the accumulator at `acc`. -/
def held (acc : FVec F S1792x128 .f32) : sProp 𝕄 :=
  iprop(owns (c : Thread nD τ) arg2 fullShare x1 ∗ owns (c : Thread nD τ) arg3 fullShare x2 ∗ owns (c : Thread nD τ) arg5 fullShare acc)

/-- The walk of row `kt` from entry `j` with `f` entries left: holding the buffers it returns where the walk stops, the
    accumulator at what the walk folds. -/
def spec (f j : ℕ) (acc : FVec F S1792x128 .f32) : sWPT 𝕄 (BitVec 32) := do
  sWPT.consume (held c arg2 arg3 arg5 x1 x2 acc)
  sWPT.produce (held c arg2 arg3 arg5 x1 x2
    (walk (go x0 x1 ((((i 0).val + 1 : ℕ) : ℤ) * Scatter.step) kt.val)
      (fun k => put (i 0).val (cell x1 kt.val k) (cell x2 kt.val k)) f j acc))
  pure (BitVec.ofNat 32 (stop (go x0 x1 ((((i 0).val + 1 : ℕ) : ℤ) * Scatter.step) kt.val) f j))

theorem spec_apply (f j : ℕ) (acc : FVec F S1792x128 .f32) (K : BitVec 32 → sProp 𝕄) :
    spec c i kt arg2 arg3 arg5 x0 x1 x2 f j acc K
      = iprop(held c arg2 arg3 arg5 x1 x2 acc ∗ (held c arg2 arg3 arg5 x1 x2
          (walk (go x0 x1 ((((i 0).val + 1 : ℕ) : ℤ) * Scatter.step) kt.val)
            (fun k => put (i 0).val (cell x1 kt.val k) (cell x2 kt.val k)) f j acc)
          -∗ K (BitVec.ofNat 32 (stop (go x0 x1 ((((i 0).val + 1 : ℕ) : ℤ) * Scatter.step) kt.val) f j)))) := rfl

variable {n x0} in
/-- The label's test at entry `j` is the walk's. -/
theorem test_iff (hi : (i 0).val < 96) (hn : n.toInt = cnt x0 kt.val) {j : ℕ} (hj : j ≤ 2048) :
    Scalar.andi (Scalar.cmpi .slt (BitVec.ofNat 32 j) n)
        (Scalar.cmpi .slt (cell x1 kt.val (min j 2047)) (Scalar.muli (Scalar.addi (BitVec.ofNat 32 (i 0).val) 1#32) 229376#32)) = 1#1
      ↔ go x0 x1 ((((i 0).val + 1 : ℕ) : ℤ) * Scatter.step) kt.val j := by
  rw [andi_slt_eq_one_iff, toInt_stepEnd hi, toInt_ofNat_le hj, hn]
  have hc : cell x1 kt.val (min j 2047) = cell x1 kt.val j := by
    unfold cell col; congr 2; exact Fin.ext (by show min (min j 2047) 2047 = min j 2047; omega)
  rw [hc]; rfl

variable {n x0} in
theorem chk1 {j : ℕ} (hj : j ≤ 2048) : k1_chk1 kt (BitVec.ofNat 32 j) := by
  unfold k1_chk1; rw [off3_eq kt hj]; have := trip_lt kt
  exact Fin.forall_fin_two.mpr ⟨by show kt.val + 1 ≤ 24; omega, by show min j 2047 + 1 ≤ 2048; omega⟩

theorem chk2 {j : ℕ} (hj : j < 2048) : k1_chk2 kt (BitVec.ofNat 32 j) := by
  unfold k1_chk2; rw [off4_eq kt hj.le]; have := trip_lt kt
  exact Fin.forall_fin_two.mpr ⟨by show kt.val + 1 ≤ 24; omega, by show j + 1 ≤ 2048; omega⟩

/-- Where the test fails the label's function returns its entry number and touches nothing. -/
theorem exit_le (bd : Option 𝒱₀.V) (E : Set ℕ) (hi : (i 0).val < 96) (hn : n.toInt = cnt x0 kt.val) (j : ℕ) (hj : j ≤ 2048)
    (hg : ¬ go x0 x1 ((((i 0).val + 1 : ℕ) : ℤ) * Scatter.step) kt.val j) (acc : FVec F S1792x128 .f32) (K : BitVec 32 → sProp 𝕄) :
    iprop(held c arg2 arg3 arg5 x1 x2 acc ∗ (held c arg2 arg3 arg5 x1 x2 acc -∗ K (BitVec.ofNat 32 j)))
      ⊢ wp frame (wpE (defs₀ (F := F)) 𝒱₀ (c : Thread nD τ) bd) E
          (cc1_while1 i kt n arg2 harg2 arg3 harg3 arg5 harg5 lanes (BitVec.ofNat 32 j)) K := by
  simp only [cc1_while1_eq_skeleton]; unfold cc1_while1_skel
  simp only [smemLoad, smemLoadElt, Prog.lift, Prog.bind_op, Prog.bind_ret, Prog.pure_eq_ret]
  unfold held owns
  iintro ⟨⟨⟨%f1, %h1, H1⟩, H2, H5⟩, Hk⟩
  iapply (wp_assume 𝒱₀ (c : Thread nD τ) bd E (chk1 kt hj))
  iapply (wp_load_cell h1 (off3_eq kt hj)) $$ H1; iintro H1
  rw [if_neg fun h => hg ((test_iff i kt x1 hi hn hj).mp h), wp_ret]
  imodintro
  iapply Hk
  isplitl [H1]
  · iexists _; isplitr; · ipureintro; exact h1
    iexact H1
  isplitl [H2]; · iexact H2
  iexact H5

set_option maxHeartbeats 400000 in
include harg2 harg3 harg5 in
/-- The label's function meets the specification with `f` entries left, entered at variant `f`. -/
theorem spec_le (E : Set ℕ) (hi : (i 0).val < 96) (hn : n.toInt = cnt x0 kt.val) (hn' : cnt x0 kt.val ≤ 2048) :
    ∀ f j : ℕ, j + f = 2048 → (∀ k : ℕ, j ≤ k → (k : ℤ) < cnt x0 kt.val → ((i 0).val : ℤ) * Scatter.step ≤ (cell x1 kt.val k).toInt) →
      ∀ acc K, spec c i kt arg2 arg3 arg5 x0 x1 x2 f j acc K
        ⊢ wp frame (wpE (defs₀ (F := F)) 𝒱₀ (c : Thread nD τ) (some f)) E
          (defs₀ (F := F) .tc 2 ⟨i, kt, n, arg2, harg2, arg3, harg3, arg5, harg5, lanes, BitVec.ofNat 32 j⟩) K := by
  intro f
  induction f with
  | zero =>
    intro j hj hlow acc K
    have hg : ¬ go x0 x1 ((((i 0).val + 1 : ℕ) : ℤ) * Scatter.step) kt.val j := fun h => by have := h.1; omega
    exact exit_le c i kt n arg2 harg2 arg3 harg3 arg5 harg5 x0 x1 x2 (some 0) E hi hn j (by omega) hg acc K
  | succ f ih =>
    intro j hj hlow acc K
    have hj' : j ≤ 2048 := by omega
    by_cases hg : go x0 x1 ((((i 0).val + 1 : ℕ) : ℤ) * Scatter.step) kt.val j
    swap
    · have h := exit_le c i kt n arg2 harg2 arg3 harg3 arg5 harg5 x0 x1 x2 (some (f + 1)) E hi hn j hj' hg acc K
      rw [spec_apply]; unfold stop walk; rw [if_neg hg, if_neg hg]
      exact h
    rw [spec_apply]; unfold stop walk; rw [if_pos hg, if_pos hg]
    show _ ⊢ wp frame (wpE (defs₀ (F := F)) 𝒱₀ (c : Thread nD τ) (some (f + 1))) E
      (cc1_while1 i kt n arg2 harg2 arg3 harg3 arg5 harg5 lanes (BitVec.ofNat 32 j)) K
    simp only [cc1_while1_eq_skeleton]; unfold cc1_while1_skel
    simp only [smemLoad, smemLoadElt, Prog.lift, Prog.bind_op, Prog.bind_ret, Prog.pure_eq_ret]
    -- the row of the accumulator that entry `j` falls in
    have hrow := toNat_row hi (hlow j le_rfl hg.1) hg.2
    have h5eq : k1_off5 i (cell x1 kt.val j) = ![(cell x1 kt.val j).toNat / 128 - (i 0).val * 1792, 0] := by
      rw [← hrow.1]; rfl
    have hc3 : k1_chk3 i (cell x1 kt.val j) := by
      unfold k1_chk3; rw [h5eq]
      exact Fin.forall_fin_two.mpr ⟨hrow.2.1, by show 0 + 128 ≤ 128; omega⟩
    unfold held owns
    iintro ⟨⟨⟨%f1, %h1, H1⟩, ⟨%f2, %h2, H2⟩, ⟨%f5, %h5, H5⟩⟩, Hk⟩
    iapply (wp_assume 𝒱₀ (c : Thread nD τ) (some (f + 1)) E (chk1 kt hj'))
    iapply (wp_load_cell h1 (off3_eq kt hj')) $$ H1; iintro H1
    rw [if_pos ((test_iff i kt x1 hi hn hj').mpr hg)]
    have hj2 : j < 2048 := by omega
    iapply (wp_assume 𝒱₀ (c : Thread nD τ) (some (f + 1)) E (chk2 kt hj2))
    iapply (wp_load_cell h1 (off4_eq kt hj')) $$ H1; iintro H1
    iapply (wp_assume 𝒱₀ (c : Thread nD τ) (some (f + 1)) E hc3)
    iapply (wp_load_cell h2 (off4_eq kt hj')) $$ H2; iintro H2
    let r5 : Rect S1792x128 := Rect.unit (s := S1792x128) (k1_off5 i (cell x1 kt.val j)) S1x128.size (k1_off5_inb i _ hc3)
    have hS5 : arg5.view.setOn r5.toLoadRect.set ⊆ arg5.view.set := View.setOn_subset_set _ _
    iapply (wp_load 𝒱₀ (c : Thread nD τ) (some (f + 1)) E (m := arg5) (r := r5.toLoadRect) (f := f5) hS5) $$ H5; iintro H5
    iapply (wp_load 𝒱₀ (c : Thread nD τ) (some (f + 1)) E (m := arg5) (r := r5.toLoadRect) (f := f5) hS5) $$ H5; iintro H5
    iapply (wp_store 𝒱₀ (c : Thread nD τ) (some (f + 1)) E (m := arg5)
      (r := r5) (Mk := Finset.univ) (f := f5) (View.set_slice_subset _ _)) $$ H5; iintro H5
    have hput := read_put h5 (t := (i 0).val) (p := cell x1 kt.val j) (x := cell x2 kt.val j) (k1_off5_inb i _ hc3) h5eq
    have hadd : Scalar.addi (BitVec.ofNat 32 j) 1#32 = BitVec.ofNat 32 (j + 1) := by
      show BitVec.ofNat 32 j + BitVec.ofNat 32 1 = _
      rw [← BitVec.ofNat_add]
    rw [hadd]
    -- the call of the label at the next entry, one entry fewer left
    iapply (wp_call_spec 𝒱₀ (c : Thread nD τ) (some (f + 1)) E (spec c i kt arg2 arg3 arg5 x0 x1 x2 f (j + 1)
        (put (i 0).val (cell x1 kt.val j) (cell x2 kt.val j) acc)) f (fun u hu => by cases hu; exact Nat.lt_succ_self f)
      (ih (j + 1) (by omega) (fun k hk => hlow k (by omega)) _))
    rw [spec_apply]; unfold held owns
    isplitl [H1 H2 H5]
    · isplitl [H1]
      · iexists _; isplitr; · ipureintro; exact h1
        iexact H1
      isplitl [H2]
      · iexists _; isplitr; · ipureintro; exact h2
        iexact H2
      iexists _; isplitr; · ipureintro; exact hput
      iexact H5
    iintro H
    rw [wp_ret]; imodintro
    iapply Hk
    iexact H

end Label

end Cert.KernelIdeal.Scatter

end
-- ==== Proof.PI.Rows.lean ====
/-
  The two counted loops of a grid step, one trip each: the zeroing of the pointers in step 0, and the walks of the 24
  rows, each trip calling the label of `While.lean` at the row's pointer and storing where it stopped.
-/
module

public import proofs.«01_k».proof.Proof.PI.While
public import Idealize.ShloMosaic.Lib.CellWrites

@[expose] public section

noncomputable section

namespace Cert.KernelIdeal.Scatter

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Scatter

variable {F : FTy → Type} [FloatOps F]

local notation "𝕄" => MT nD τ sig Unit (Elt F) ℕ (UR sig nD τ) ℕ

theorem off1_eq (k : Fin k1_t1_loop.trips) : k1_off1 k = ![k.val] := by
  revert k; decide +kernel

/-- A load of one word of the 24, at `k`: the program continues at that word. -/
theorem wp_load_word {c : Dev nD} {bd : Option 𝒱₀.V} {E : Set ℕ} {m : Memref sig .tc .smem S24 .i32}
    {off : Fin 1 → ℕ} {inb : ∀ a, off a + S1.size a ≤ S24.size a}
    {hl : m.view.LoadsAt (Rect.unit (s := S24) off S1.size inb).toLoadRect} {β : Type}
    {k : (S1.Idx → BitVec 32) → Prog (TpuEff nD τ sig (Elt F) (Λ₀ F) .tc) β} {Q : β → sProp 𝕄}
    {f : Buf (Elt F) (m.view.loc (c : Thread nD τ))} {x : Counts} {w : ℕ} (hf : m.view.read (Elt F) f = x) (h : off = ![w]) :
    (m.view.loc (c : Thread nD τ) ↦[m.view.set]{fullShare} f)
      ⊢ iprop(((m.view.loc (c : Thread nD τ) ↦[m.view.set]{fullShare} f)
            -∗ wp frame (wpE (defs₀ (F := F)) 𝒱₀ (c : Thread nD τ) bd) E (k fun _ => x (ix1 (row w))) Q)
        -∗ wp frame (wpE (defs₀ (F := F)) 𝒱₀ (c : Thread nD τ) bd) E
            (.op (.load m (Rect.unit (s := S24) off S1.size inb).toLoadRect hl) k) Q) := by
  have hr : m.view.readAt (Elt F) (Rect.unit (s := S24) off S1.size inb).toLoadRect f = fun _ => x (ix1 (row w)) := by
    subst hf h
    funext z
    have h0 : w + 1 ≤ 24 := inb 0
    have z0 : (z 0).val < 1 := (z 0).isLt
    refine congrArg (m.view.read (Elt F) f) (funext fun a => Fin.ext ?_)
    fin_cases a
    show w + 1 * (z 0).val = min w 23
    omega
  have hk : k (m.view.readAt (Elt F) (Rect.unit (s := S24) off S1.size inb).toLoadRect f) = k fun _ => x (ix1 (row w)) :=
    congrArg k hr
  rw [← hk]
  exact wp_load 𝒱₀ (c : Thread nD τ) bd E (View.setOn_subset_set _ _)

/-- The 24 words read back after a store of `p` at `w`. -/
theorem read_word (v : View sig .tc .smem S24 .i32) (f : v.ty.Contents (Elt F)) {off : Fin 1 → ℕ} {w : ℕ}
    (inb : ∀ a, off a + S1.size a ≤ S24.size a) (h : off = ![w]) (p : BitVec 32) (y : S24.Idx) :
    v.read (Elt F) ((v.slice (Rect.unit (s := S24) off S1.size inb)).write (Elt F) f (fun _ => p) Finset.univ) y
      = if (y 0).val = w then p else v.read (Elt F) f y := by
  subst h
  exact View.read_writes_cons_cell v f inb p [] y

section Trips

variable (c : Dev nD) (i : grid1.Coords)
  (arg1 : Memref sig .tc .smem S24 .i32) (harg1 : arg1.IsWhole)
  (arg2 : Memref sig .tc .smem S24x2048 .i32) (harg2 : arg2.IsWhole) (arg3 : Memref sig .tc .smem S24x2048 .f32) (harg3 : arg3.IsWhole)
  (arg4 : Memref sig .tc .vmem S64x3584 .bf16) (harg4 : arg4.IsWhole)
  (arg5 : Memref sig .tc .vmem S1792x128 .f32) (harg5 : arg5.IsWhole) (arg6 : Memref sig .tc .smem S24 .i32) (harg6 : arg6.IsWhole)

/-- Before trip `k` of the zeroing the first `k` pointers are zero. -/
def zeroInv (k : ℕ) (_ : Unit) : sProp 𝕄 :=
  iprop(∃ f : Buf (Elt F) (arg6.view.loc (c : Thread nD τ)), ⌜∀ y : S24.Idx, (y 0).val < k → arg6.view.read (Elt F) f y = 0#32⌝
    ∗ (arg6.view.loc (c : Thread nD τ) ↦[arg6.view.set]{fullShare} f))

theorem zero_trip (E : Set ℕ) (h1 : k1_cond1 i = 1#1) (k : Fin k1_t1_loop.trips) (u : Unit) :
    zeroInv (F := F) c arg6 k.val u
      ⊢ wp frame (wpE (defs₀ (F := F)) 𝒱₀ (c : Thread nD τ) none) E
          (k1_t1_body (F := F) i arg1 harg1 arg2 harg2 arg3 harg3 arg4 harg4 arg5 harg5 arg6 harg6 h1 k u)
          (zeroInv (F := F) c arg6 (k.val + 1)) := by
  unfold k1_t1_body
  simp only [smemLoad, smemLoadElt, Prog.lift, Prog.bind_op, Prog.bind_ret, Prog.pure_eq_ret]
  unfold zeroInv
  iintro ⟨%f, %hf, H⟩
  iapply (wp_load_word rfl (off1_eq k)) $$ H; iintro H
  iapply (wp_store 𝒱₀ (c : Thread nD τ) none E (m := arg6) (r := Rect.unit (s := S24) (k1_off1 k) S1.size (k1_off1_inb i k h1))
    (Mk := Finset.univ) (f := f) (View.set_slice_subset _ _)) $$ H; iintro H
  rw [wp_ret]; imodintro
  iexists _; isplitr
  swap; · iexact H
  ipureintro
  intro y hy
  refine (read_word arg6.view f _ (off1_eq k) _ y).trans ?_
  split
  · rfl
  · exact hf y (by omega)

variable (x0 : Counts) (x1 : Rows (BitVec 32)) (x2 : Rows (F .f32))

/-- The 24 pointers in the middle of step `t`: the first `k` rows walked. -/
def ptrs (t k : ℕ) : Counts := fun y => BitVec.ofNat 32 (if (y 0).val < k then ptr x0 x1 (t + 1) (y 0).val else ptr x0 x1 t (y 0).val)

/-- Before trip `k` of the walks the first `k` rows are walked. -/
def rowInv (t k : ℕ) (_ : Unit) : sProp 𝕄 :=
  iprop(owns (c : Thread nD τ) arg1 fullShare x0 ∗ held c arg2 arg3 arg5 x1 x2 (accW x0 x1 x2 t k)
    ∗ owns (c : Thread nD τ) arg6 fullShare (ptrs x0 x1 t k))

include harg2 harg3 harg5 in
theorem row_trip (E : Set ℕ) (hs : Sorted x0 x1) (k : Fin k1_t2_loop.trips) (u : Unit) :
    rowInv c arg1 arg2 arg3 arg5 arg6 x0 x1 x2 (i 0).val k.val u
      ⊢ wp frame (wpE (defs₀ (F := F)) 𝒱₀ (c : Thread nD τ) none) E
          (k1_t2_body (F := F) i arg1 harg1 arg2 harg2 arg3 harg3 arg4 harg4 arg5 harg5 arg6 harg6 lanes k u)
          (rowInv c arg1 arg2 arg3 arg5 arg6 x0 x1 x2 (i 0).val (k.val + 1)) := by
  have hk := trip_lt k
  have hi : (i 0).val < 96 := (i 0).isLt
  have hrow : row k.val = ⟨k.val, hk⟩ := row_val ⟨k.val, hk⟩
  unfold k1_t2_body
  simp only [smemLoad, smemLoadElt, Prog.lift, Prog.bind_op, Prog.bind_ret, Prog.pure_eq_ret]
  unfold rowInv
  unfold owns
  iintro ⟨⟨%f1, %h1, H1⟩, Hh, ⟨%f6, %h6, H6⟩⟩
  iapply (wp_load_word h1 (off2_eq k)) $$ H1; iintro H1
  iapply (wp_load_word h6 (off2_eq k)) $$ H6; iintro H6
  have hp : ptrs x0 x1 (i 0).val k.val (ix1 (row k.val)) = BitVec.ofNat 32 (ptr x0 x1 (i 0).val k.val) := by
    rw [hrow]
    show BitVec.ofNat 32 (if k.val < k.val then _ else _) = _
    rw [if_neg (lt_irrefl _)]
  rw [hp]
  have hle := ptr_le (x0 := x0) (x1 := x1) (i 0).val k.val
  iapply (wp_call_spec 𝒱₀ (c : Thread nD τ) none E (spec c i k arg2 arg3 arg5 x0 x1 x2 (2048 - ptr x0 x1 (i 0).val k.val)
      (ptr x0 x1 (i 0).val k.val) (accW x0 x1 x2 (i 0).val k.val)) (2048 - ptr x0 x1 (i 0).val k.val) (fun u hu => nomatch hu)
    (spec_le c i k (x0 (ix1 (row k.val))) arg2 harg2 arg3 harg3 arg5 harg5 x0 x1 x2 E hi rfl (hs.cnt_le _) _ _ (by omega)
      (fun n hn hc => hs.low _ _ n hn hc) _))
  rw [spec_apply]
  isplitl [Hh]; · iexact Hh
  iintro Hh
  iapply (wp_load_word h6 (off2_eq k)) $$ H6; iintro H6
  iapply (wp_store 𝒱₀ (c : Thread nD τ) none E (m := arg6) (r := Rect.unit (s := S24) (k1_off2 k) S1.size (k1_off2_inb k))
    (Mk := Finset.univ) (f := f6) (View.set_slice_subset _ _)) $$ H6; iintro H6
  rw [wp_ret]; imodintro
  isplitl [H1]
  · iexists _; isplitr; · ipureintro; exact h1
    iexact H1
  isplitl [Hh]; · iexact Hh
  iexists _; isplitr
  swap; · iexact H6
  ipureintro
  funext y
  refine (read_word arg6.view f6 _ (off2_eq k) _ y).trans ?_
  rw [h6]
  unfold ptrs
  split
  · rename_i hy
    rw [if_pos (by omega), hy]; rfl
  · rename_i hy
    by_cases hy' : (y 0).val < k.val
    · rw [if_pos hy', if_pos (by omega)]
    · rw [if_neg hy', if_neg (by omega)]

end Trips

end Cert.KernelIdeal.Scatter

end
-- ==== Proof.PI.Body.lean ====
/-
  One grid step of the scatter: the pointers zeroed in step 0, the accumulator zeroed, the 24 rows walked, and the
  block of the result read off the accumulator in 28 tiles.
-/
module

public import proofs.«01_k».proof.Proof.PI.Rows
public import Idealize.ShloMosaic.Lib.Pipeline.ReadBack
public import Idealize.ShloMosaic.Lib.Ring

@[expose] public section

set_option maxRecDepth 16384

noncomputable section

namespace Cert.KernelIdeal.Scatter

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Scatter

variable {F : FTy → Type} [FloatOps F]

local notation "𝕄" => MT nD τ sig Unit (Elt F) ℕ (UR sig nD τ) ℕ

/-- A branch before a continuation both arms run is the branch, then the continuation. -/
theorem dite_bind.{v} {E : Type → Type v} {β : Type} {C : Prop} [Decidable C] (a : C → Prog E PUnit) (r : Prog E β) :
    (if h : C then a h >>= fun _ => r else r) = ((if h : C then a h else pure ⟨⟩) >>= fun _ => r) := by
  split <;> rfl

/-- The condition of the step's branch is that the step is the first. -/
theorem cond1_iff (i : grid1.Coords) : Iff (k1_cond1 i = 1#1) ((i 0).val = 0) := by
  have h : ∀ t : Fin 96, Iff (Scalar.cmpi .ne (Scalar.extui (Scalar.cmpi .eq (BitVec.ofNat 32 t.val) 0#32) : BitVec 32) 0#32 = 1#1) (t.val = 0) := by
    decide +kernel
  exact h (i 0)

variable (c : Dev nD) (i : grid1.Coords)
  (arg1 : Memref sig .tc .smem S24 .i32) (harg1 : arg1.IsWhole)
  (arg2 : Memref sig .tc .smem S24x2048 .i32) (harg2 : arg2.IsWhole) (arg3 : Memref sig .tc .smem S24x2048 .f32) (harg3 : arg3.IsWhole)
  (arg4 : Memref sig .tc .vmem S64x3584 .bf16) (harg4 : arg4.IsWhole)
  (arg5 : Memref sig .tc .vmem S1792x128 .f32) (harg5 : arg5.IsWhole) (arg6 : Memref sig .tc .smem S24 .i32) (harg6 : arg6.IsWhole)
  (x0 : Counts) (x1 : Rows (BitVec 32)) (x2 : Rows (F .f32))

include harg1 harg2 harg3 harg4 harg5 harg6 in
/-- The step's branch: after it every pointer is where the steps before left it, at zero in the first step. -/
theorem zero_run (s : Counts) (h6 : (i 0).val ≠ 0 → s = ptrs x0 x1 (i 0).val 0) (E : Set ℕ) :
    owns (c : Thread nD τ) arg6 fullShare s
      ⊢ wp frame (wpE (defs₀ (F := F)) 𝒱₀ (c : Thread nD τ) none) E
          (if k1_h1 : k1_cond1 i = 1#1 then
            Scf.Loop.for k1_t1_loop (k1_t1_ok i k1_h1) ⟨⟩ (k1_t1_body i arg1 harg1 arg2 harg2 arg3 harg3 arg4 harg4 arg5 harg5 arg6 harg6 k1_h1)
          else pure ⟨⟩)
          (fun _ => (owns (c : Thread nD τ) arg6 fullShare (ptrs x0 x1 (i 0).val 0) : sProp 𝕄)) := by
  by_cases h1 : k1_cond1 i = 1#1
  · rw [dif_pos h1]
    unfold owns
    iintro ⟨%f6, -, H6⟩
    iapply (Scf.wp_for Idealize.ShloMosaic.frame (wpE (defs₀ (F := F)) 𝒱₀ (c : Thread nD τ) none) E k1_t1_loop.lb k1_t1_loop.ub k1_t1_loop.st
      (k1_t1_ok i h1) ⟨⟩ (k1_t1_body i arg1 harg1 arg2 harg2 arg3 harg3 arg4 harg4 arg5 harg5 arg6 harg6 h1) (zeroInv c arg6)
      (zero_trip c i arg1 harg1 arg2 harg2 arg3 harg3 arg4 harg4 arg5 harg5 arg6 harg6 E h1))
    isplitl [H6]
    · unfold zeroInv
      iexists _; isplitr
      swap; · iexact H6
      ipureintro; intro y hy; exact absurd hy (Nat.not_lt_zero _)
    iintro %u H
    unfold zeroInv
    icases H with ⟨%f, %hf, H⟩
    iexists _; isplitr
    swap; · iexact H
    ipureintro
    funext y
    have h0 : (i 0).val = 0 := (cond1_iff i).mp h1
    refine (hf y ?_).trans ?_
    · exact lt_of_lt_of_eq (y 0).isLt (by decide +kernel)
    · unfold ptrs; rw [if_neg (Nat.not_lt_zero _), h0]; rfl
  · rw [dif_neg h1, h6 fun h0 => h1 ((cond1_iff i).mpr h0)]
    simp only [Prog.pure_eq_ret]
    iintro H
    rw [wp_ret]; imodintro
    iexact H

/-- A tile of the result, loaded off the accumulator with stride 28, is its part of the block. -/
theorem tile (f : arg5.view.ty.Contents (Elt F)) (ct : ℕ) (hct : ct < 28)
    (inb5 : ∀ a, S64x128.size a = 0 ∨ (![ct, 0] : Fin 2 → ℕ) a + (![28, 1] : Fin 2 → ℕ) a * (S64x128.size a - 1) < S1792x128.size a)
    (inb4 : ∀ a, (![0, 128 * ct] : Fin 2 → ℕ) a + S64x128.size a ≤ S64x3584.size a) (x : S64x128.Idx) :
    k1_pay1 (View.readAt (Elt F) arg5.view (⟨![ct, 0], S64x128.size, ![28, 1], inb5⟩ : LoadRect S1792x128) f) x
      = outBlk (arg5.view.read (Elt F) f) ((Rect.unit (s := S64x3584) ![0, 128 * ct] S64x128.size inb4).emb x) := by
  have h0 : (x 0).val < 64 := (x 0).isLt
  have h1 : (x 1).val < 128 := (x 1).isLt
  have e1 : ((Rect.unit (s := S64x3584) ![0, 128 * ct] S64x128.size inb4).emb x 1).val = 128 * ct + 1 * (x 1).val := rfl
  have e0 : ((Rect.unit (s := S64x3584) ![0, 128 * ct] S64x128.size inb4).emb x 0).val = 0 + 1 * (x 0).val := rfl
  unfold outBlk
  have ex : (ix2 ((Rect.unit (s := S64x3584) ![0, 128 * ct] S64x128.size inb4).emb x 0)
      ⟨((Rect.unit (s := S64x3584) ![0, 128 * ct] S64x128.size inb4).emb x 1).val % 128, Nat.mod_lt _ (by norm_num)⟩ : S64x128.Idx) = x := by
    refine (congrArg₂ ix2 (Fin.ext ?_) (Fin.ext ?_)).trans (eq_ix2 x).symm
    · rw [e0]; omega
    · show (_ : ℕ) % 128 = _
      rw [e1]; omega
  rw [ex]
  refine congrArg (fun w => k1_pay1 w x) (funext fun z => ?_)
  have h2 : (z 0).val < 64 := (z 0).isLt
  refine congrArg (arg5.view.read (Elt F) f) ((eq_ix2 _).trans (congrArg₂ ix2 (Fin.ext ?_) (Fin.ext ?_)))
  · show ct + 28 * (z 0).val = (28 * (z 0).val + (_ : ℕ) / 128) % 1792
    rw [e1]; omega
  · show 0 + 1 * (z 1).val = (z 1).val
    omega

set_option maxHeartbeats 2000000 in
theorem scatter_run (hs : Sorted x0 x1) (s : Counts) (h6 : (i 0).val ≠ 0 → s = ptrs x0 x1 (i 0).val 0) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare (outBlk (accW x0 x1 x2 (i 0).val 24))
            ∗ (∃ d, owns (c : Thread nD τ) arg5 fullShare d) ∗ owns (c : Thread nD τ) arg6 fullShare (ptrs x0 x1 (i 0).val 24)) -∗ K ⟨⟩))
      ⊢ wp frame (wpE (defs₀ (F := F)) 𝒱₀ (c : Thread nD τ) none) E
          (cc1_scatter i arg1 harg1 arg2 harg2 arg3 harg3 arg4 harg4 arg5 harg5 arg6 harg6) K := by
  simp only [cc1_scatter_eq_skeleton]; unfold cc1_scatter_skel
  simp only [k1_part1_eq_skeleton]; unfold k1_part1_skel
  iintro ⟨H1, H2, H3, ⟨%d4, H4⟩, ⟨%d5, H5⟩, H6, Hk⟩
  dsimp only
  rw [dite_bind]
  rw [Prog.bind_assoc]
  rw [wp_bind]
  iapply (wp_wand_r Idealize.ShloMosaic.frame (wpE (defs₀ (F := F)) 𝒱₀ (c : Thread nD τ) none) E)
  isplitl [H6]
  · iapply (zero_run c i arg1 harg1 arg2 harg2 arg3 harg3 arg4 harg4 arg5 harg5 arg6 harg6 x0 x1 s h6 E)
    iexact H6
  iintro %u H6
  unfold owns
  icases H4 with ⟨%f4, -, H4⟩
  icases H5 with ⟨%f5, -, H5⟩
  sl_exec
  have hz : arg5.view.read (Elt F) (arg5.view.writes (Elt F) f5
      [⟨Rect.unit (s := S1792x128) ![0, 0] S1792x128.size inb_S1792x128_S1792x128_0_0, (k1_pay5 (F := F))⟩]) = accW x0 x1 x2 (i 0).val 0 := by
    funext y
    exact View.read_writes_cons_unit_of_mem arg5.view f5 inb_S1792x128_S1792x128_0_0 (k1_pay5 (F := F)) [] y y rfl
      (Fin.forall_fin_two.mpr ⟨(Nat.zero_add _).symm, (Nat.zero_add _).symm⟩)
  rw [Prog.bind_assoc]
  iapply (Scf.wp_for_bind Idealize.ShloMosaic.frame (wpE (defs₀ (F := F)) 𝒱₀ (c : Thread nD τ) none) E k1_t2_loop.lb k1_t2_loop.ub k1_t2_loop.st
    k1_t2_ok ⟨⟩ (k1_t2_body i arg1 harg1 arg2 harg2 arg3 harg3 arg4 harg4 arg5 harg5 arg6 harg6 lanes)
    (rowInv c arg1 arg2 arg3 arg5 arg6 x0 x1 x2 (i 0).val)
    (row_trip c i arg1 harg1 arg2 harg2 arg3 harg3 arg4 harg4 arg5 harg5 arg6 harg6 x0 x1 x2 E hs)) $$ [H1 H2 H3 H5 H6]
  · unfold rowInv held owns
    isplitl [H1]; · iexact H1
    isplitl [H2 H3 H5]
    · isplitl [H2]; · iexact H2
      isplitl [H3]; · iexact H3
      iexists _; isplitr
      swap; · iexact H5
      ipureintro; exact hz
    iexact H6
  iintro %v H
  rw [show (Scf.trips k1_t2_loop.lb k1_t2_loop.ub k1_t2_loop.st) = 24 by decide +kernel]
  unfold rowInv held owns
  icases H with ⟨H1, ⟨H2, H3, ⟨%g5, %hg5, H5⟩⟩, H6⟩
  sl_exec
  rw [wp_ret]; imodintro
  iapply Hk
  isplitl [H1]; · iexact H1
  isplitl [H2]; · iexact H2
  isplitl [H3]; · iexact H3
  isplitl [H4]
  · iexists _; isplitr
    swap; · iexact H4
    ipureintro
    rw [← hg5]
    funext y
    refine View.read_writes_apply_of_pieces arg4.view f4 _ _ (View.PiecesOf.mem ?_) y
      (View.cover_of_tiledL (s := S64x3584) _ S64x128.size (by sl_kernel_rfl) y)
    have T := fun (ct : ℕ) (hct : ct < 28) => tile arg5 g5 ct hct
      (Fin.forall_fin_two.mpr ⟨.inr (show ct + 28 * 63 < 1792 by omega), .inr (show 0 + 1 * 127 < 128 by norm_num)⟩)
      (Fin.forall_fin_two.mpr ⟨show 0 + 64 ≤ 64 by norm_num, show 128 * ct + 128 ≤ 3584 by omega⟩)
    exact ⟨T 27 (by norm_num), T 26 (by norm_num), T 25 (by norm_num), T 24 (by norm_num), T 23 (by norm_num), T 22 (by norm_num), T 21 (by norm_num), T 20 (by norm_num),
      T 19 (by norm_num), T 18 (by norm_num), T 17 (by norm_num), T 16 (by norm_num), T 15 (by norm_num), T 14 (by norm_num), T 13 (by norm_num), T 12 (by norm_num),
      T 11 (by norm_num), T 10 (by norm_num), T 9 (by norm_num), T 8 (by norm_num), T 7 (by norm_num), T 6 (by norm_num), T 5 (by norm_num), T 4 (by norm_num),
      T 3 (by norm_num), T 2 (by norm_num), T 1 (by norm_num), T 0 (by norm_num), trivial⟩
  isplitl [H5]
  · iexists _, _; isplitr
    swap; · iexact H5
    ipureintro; rfl
  iexact H6

end Cert.KernelIdeal.Scatter

end
-- ==== Proof.PI.Region.lean ====
/-
  The two pipelines of the kernel: what each holds at a grid step, and that its body carries one step to the next. The
  decode runs once over whole arrays. The scatter carries the pointers of the 24 rows from step to step.
-/
module

public import proofs.«01_k».proof.Proof.PI.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value

@[expose] public section

set_option maxRecDepth 16384

noncomputable section

namespace Cert.KernelIdeal.Scatter

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Scatter

variable {F : FTy → Type} [FloatOps F]

local notation "𝕄" => MT nD τ sig Unit (Elt F) ℕ (UR sig nD τ) ℕ

section Regions
-- the buffers' contents when a pipeline is entered
variable (V : (c : Dev nD) → (b : Ref sig .tc) → Buf (Elt F) ((c : Thread nD τ).loc b))

/-! # The decode -/

/-! ## The windows' blocks -/

/-- Window `w`'s block at point `t`, read off its array as the region finds it (`V`). -/
def iblk0 (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V c (Pipeline.arrRef spec0 w))

/-- Input window 0's buffer holds its block, for proof data over these arrays that leave it in place. -/
theorem before0_0_of {c : Dev nD} (dat : Dat τ (Elt F) Unit ℕ (UR sig nD τ) ℕ (cfg0 (F := F)) c) (hA : dat.A 0 = V c (Pipeline.arrRef spec0 0))
    (hafter : ∀ t, dat.after 0 t = iblk0 V c 0 t) (t : Fin (cfg0 (F := F)).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block, for proof data over these arrays that leave it in place. -/
theorem before0_1_of {c : Dev nD} (dat : Dat τ (Elt F) Unit ℕ (UR sig nD τ) ℕ (cfg0 (F := F)) c) (hA : dat.A 1 = V c (Pipeline.arrRef spec0 1))
    (hafter : ∀ t, dat.after 1 t = iblk0 V c 1 t) (t : Fin (cfg0 (F := F)).N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S24x2048 := Rect.unit (s := S24x2048) ![0, 0] S24x2048.size inb_S24x2048_S24x2048_0_0
abbrev r0_1 : Rect S24x2 := Rect.unit (s := S24x2) ![0, 0] S24x1.size inb_S24x2_S24x1_0_0
abbrev r0_2 : Rect S24x2048 := Rect.unit (s := S24x2048) ![0, 0] S24x1024.size inb_S24x2048_S24x1024_0_0
abbrev r0_3 : Rect S24x2 := Rect.unit (s := S24x2) ![0, 1] S24x1.size inb_S24x2_S24x1_0_1
abbrev r0_4 : Rect S24x2048 := Rect.unit (s := S24x2048) ![0, 1024] S24x1024.size inb_S24x2048_S24x1024_0_1024

/-! ## What the body leaves in each output window's buffer -/

/-- The output's buffer after the body: its two stores, the last first. -/
def out0_2 (x0 : Vec F S24x2048 .fp8e5m2) (x1 : Vec F S24x2 .f32) : Vec F S24x2048 .f32 :=
  View.canon [⟨r0_4, k0_pay3 (View.ld x0 r0_0) (View.ld x1 r0_3)⟩,
    ⟨r0_2, k0_pay2 (View.ld x0 r0_0) (View.ld x1 r0_1)⟩]

/-- The two stores cover the buffer. -/
theorem cover0_2 (p0 : Vec F S24x1024 .f32) (p1 : Vec F S24x1024 .f32) (y : S24x2048.Idx) :
    ∃ pc ∈ ([⟨r0_4, p0⟩, ⟨r0_2, p1⟩] : List (View.Piece (Elt F) S24x2048 .f32)), y ∈ pc.1.set :=
  View.cover_of_tiled [⟨r0_4, p0⟩, ⟨r0_2, p1⟩] S24x1024.size (by rfl) y

/-! ## The body's triple -/

set_option maxHeartbeats 1000000 in
/-- The decode's body: the inputs stay, the output holds the two stores. -/
theorem sound_kernel0 (c : Dev nD) (E : Set ℕ) (arg0 : Memref sig .tc .vmem S24x2048 .fp8e5m2) (harg0 : arg0.IsWhole) (arg1 : Memref sig .tc .vmem S24x2 .f32) (harg1 : arg1.IsWhole) (arg2 : Memref sig .tc .vmem S24x2048 .f32) (harg2 : arg2.IsWhole)
    (x0 : Vec F S24x2048 .fp8e5m2) (x1 : Vec F S24x2 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) 𝒱₀ (c : Thread nD τ) none) E (cc0_decode arg0 harg0 arg1 harg1 arg2 harg2) K := by
  simp only [cc0_decode_eq_skeleton]; unfold cc0_decode_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _)

/-! ## The pipeline's proof data -/

/-- The decode's pipeline: the arrays as entered, the inputs' blocks left in place, the output's block stored. -/
def dat0 (c : Dev nD) : Dat τ (Elt F) Unit ℕ (UR sig nD τ) ℕ (cfg0 (F := F)) c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays are the contents at entry. -/
theorem A_eq0 (c : Dev nD) (w : Fin (cfg0 (F := F)).W) : (dat0 V c).A w = V c (Pipeline.arrRef spec0 w) := by
  dsimp only [dat0]

/-- What the body leaves, window by window. -/
theorem after0_0 (c : Dev nD) (t : Fin (cfg0 (F := F)).N) : (dat0 V c).after 0 t = iblk0 V c 0 t := by dsimp only [dat0]; rfl
theorem after0_1 (c : Dev nD) (t : Fin (cfg0 (F := F)).N) : (dat0 V c).after 1 t = iblk0 V c 1 t := by dsimp only [dat0]; rfl
theorem after0_2 (c : Dev nD) (t : Fin (cfg0 (F := F)).N) : (dat0 V c).after 2 t = out0_2 (iblk0 V c 0 t) (iblk0 V c 1 t) := by dsimp only [dat0]; rfl

/-- Each input's buffer holds its block before the body. -/
theorem before0_0 (c : Dev nD) (t : Fin (cfg0 (F := F)).N) (d) : (dat0 V c).before 0 t d = iblk0 V c 0 t :=
  before0_0_of V (dat0 V c) (A_eq0 V c 0) (after0_0 V c) t d
theorem before0_1 (c : Dev nD) (t : Fin (cfg0 (F := F)).N) (d) : (dat0 V c).before 1 t d = iblk0 V c 1 t :=
  before0_1_of V (dat0 V c) (A_eq0 V c 1) (after0_1 V c) t d

/-! ## The body obligation, at a generic point -/

/-- What the body is called with at a step, -/
def bodyPre0 (c : Dev nD) (t : Fin (cfg0 (F := F)).N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin (cfg0 (F := F)).N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at a step. -/
theorem sound_body0 (c : Dev nD) (t : Fin (cfg0 (F := F)).N) :
    bodyPre0 V c t ⊢ wp frame (wpE (defs₀ (F := F)) 𝒱₀ (c : Thread nD τ) none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body the pipeline calls at a step. -/
theorem defs₀_row0 (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body's triple as the pipeline asks for it. -/
theorem body_obligation0 (c : Dev nD) : BodyObligation (dat0 (F := F) V c) (defs₀ (F := F)) 𝒱₀ () Set.univ := fun t => by
  rw [bigSep_W0, bigSep_W0, defs₀_row0]
  exact triple_restated (sound_body0 V c t) rfl .rfl fun _ => .rfl

/-! # The scatter -/

/-- Window `w`'s block at point `t`, read off its array as the region finds it (`V`). -/
def iblk1 (c : Dev nD) (w : Fin (cfg1 (F := F)).W) (t : Fin (cfg1 (F := F)).N) : (((cfg1 (F := F)).win w).xblock ((cfg1 (F := F)).grid.coords t)).Idx → Elt F ((cfg1 (F := F)).win w).elt :=
  (((cfg1 (F := F)).win w).blk t).view.read (Elt F) (V c (Pipeline.arrRef spec1 w))

/-- Input window 0's buffer holds its block, for proof data over these arrays that leave it in place. -/
theorem before1_0_of {c : Dev nD} (dat : Dat τ (Elt F) Unit ℕ (UR sig nD τ) ℕ (cfg1 (F := F)) c) (hA : dat.A 0 = V c (Pipeline.arrRef spec1 0))
    (hafter : ∀ t, dat.after 0 t = iblk1 V c 0 t) (t : Fin (cfg1 (F := F)).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's buffer holds its block, for proof data over these arrays that leave it in place. -/
theorem before1_1_of {c : Dev nD} (dat : Dat τ (Elt F) Unit ℕ (UR sig nD τ) ℕ (cfg1 (F := F)) c) (hA : dat.A 1 = V c (Pipeline.arrRef spec1 1))
    (hafter : ∀ t, dat.after 1 t = iblk1 V c 1 t) (t : Fin (cfg1 (F := F)).N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's buffer holds its block, for proof data over these arrays that leave it in place. -/
theorem before1_2_of {c : Dev nD} (dat : Dat τ (Elt F) Unit ℕ (UR sig nD τ) ℕ (cfg1 (F := F)) c) (hA : dat.A 2 = V c (Pipeline.arrRef spec1 2))
    (hafter : ∀ t, dat.after 2 t = iblk1 V c 2 t) (t : Fin (cfg1 (F := F)).N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's buffer at a step, and that it is whole. -/
abbrev ms1_0 (t : Fin (cfg1 (F := F)).N) : Memref sig .tc .smem S24 .i32 := win1_0.stage ((cfg1 (F := F)).slots t 0)
abbrev hs1_0 (t : Fin (cfg1 (F := F)).N) : (ms1_0 t).IsWhole := hstage1_0 (((cfg1 (F := F)).slots t 0).cast nbuf1_0)
abbrev ms1_1 (t : Fin (cfg1 (F := F)).N) : Memref sig .tc .smem S24x2048 .i32 := win1_1.stage ((cfg1 (F := F)).slots t 1)
abbrev hs1_1 (t : Fin (cfg1 (F := F)).N) : (ms1_1 t).IsWhole := hstage1_1 (((cfg1 (F := F)).slots t 1).cast nbuf1_1)
abbrev ms1_2 (t : Fin (cfg1 (F := F)).N) : Memref sig .tc .smem S24x2048 .f32 := win1_2.stage ((cfg1 (F := F)).slots t 2)
abbrev hs1_2 (t : Fin (cfg1 (F := F)).N) : (ms1_2 t).IsWhole := hstage1_2 (((cfg1 (F := F)).slots t 2).cast nbuf1_2)
abbrev ms1_3 (t : Fin (cfg1 (F := F)).N) : Memref sig .tc .vmem S64x3584 .bf16 := win1_3.stage ((cfg1 (F := F)).slots t 3)
abbrev hs1_3 (t : Fin (cfg1 (F := F)).N) : (ms1_3 t).IsWhole := hstage1_3 (((cfg1 (F := F)).slots t 3).cast nbuf1_3)

/-- A step is its own coordinate. -/
theorem coord_val (t : Fin (cfg1 (F := F)).N) : ((cfg1 (F := F)).grid.coords t 0).val = t.val := by
  have h : ∀ t : Fin grid1.N, (grid1.coords t 0).val = t.val := by decide +kernel
  exact h t

/-- The counts, the indices and the decoded values the scatter is entered with. -/
abbrev X0 (c : Dev nD) : Counts := V c main_arg3
abbrev X1 (c : Dev nD) : Rows (BitVec 32) := V c main_arg0
abbrev X2 (c : Dev nD) : Rows (F .f32) := V c main_v0

/-- An input's block is its whole array. -/
theorem iblk1_0 (c : Dev nD) (t : Fin (cfg1 (F := F)).N) : iblk1 V c 0 t = X0 V c :=
  funext fun y => congrArg (V c main_arg3) (funext fun a => Fin.ext (win1_0.rect_emb_val_of_index_zero t a (by fin_cases a; rfl) y))
theorem iblk1_1 (c : Dev nD) (t : Fin (cfg1 (F := F)).N) : iblk1 V c 1 t = X1 V c :=
  funext fun y => congrArg (V c main_arg0) (funext fun a => Fin.ext (win1_1.rect_emb_val_of_index_zero t a (by fin_cases a <;> rfl) y))
theorem iblk1_2 (c : Dev nD) (t : Fin (cfg1 (F := F)).N) : iblk1 V c 2 t = X2 V c :=
  funext fun y => congrArg (V c main_v0) (funext fun a => Fin.ext (win1_2.rect_emb_val_of_index_zero t a (by fin_cases a <;> rfl) y))

/-- Every pointer is walked by the end of a step. -/
theorem ptrs_next (x0 : Counts) (x1 : Rows (BitVec 32)) (t : ℕ) : ptrs x0 x1 t 24 = ptrs x0 x1 (t + 1) 0 := by
  funext y
  have hy : (y 0).val < 24 := (y 0).isLt
  unfold ptrs
  rw [if_pos hy, if_neg (Nat.not_lt_zero _)]

/-- What the scatter carries from step to step: the decode's buffers and the accumulator at anything, the pointers where
    the steps before left them, and the generator's register. -/
def Φ1 (c : Dev nD) (t : ℕ) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ d, owns (c : Thread nD τ) (Memref.whole cc1_scratch0) fullShare d)
    ∗ (∃ s, ⌜t ≠ 0 → s = ptrs (X0 V c) (X1 V c) t 0⌝ ∗ owns (c : Thread nD τ) (Memref.whole cc1_scratch1) fullShare s)
    ∗ ∃ r, prngReg c r)

/-- The scatter's pipeline: the arrays as entered, the inputs' blocks left in place, the output's block read off the
    step's accumulator. -/
def dat1 (c : Dev nD) : Dat τ (Elt F) Unit ℕ (UR sig nD τ) ℕ (cfg1 (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outBlk (accW (X0 V c) (X1 V c) (X2 V c) t.val 24)
  Φ t := Φ1 V c t.val
  q _ := fullShare
  owed _ := 0

/-- The arrays are the contents at entry. -/
theorem A_eq1 (c : Dev nD) (w : Fin (cfg1 (F := F)).W) : (dat1 V c).A w = V c (Pipeline.arrRef spec1 w) := by
  dsimp only [dat1]

/-- What the body leaves, window by window. -/
theorem after1_0 (c : Dev nD) (t : Fin (cfg1 (F := F)).N) : (dat1 V c).after 0 t = iblk1 V c 0 t := by dsimp only [dat1]; rfl
theorem after1_1 (c : Dev nD) (t : Fin (cfg1 (F := F)).N) : (dat1 V c).after 1 t = iblk1 V c 1 t := by dsimp only [dat1]; rfl
theorem after1_2 (c : Dev nD) (t : Fin (cfg1 (F := F)).N) : (dat1 V c).after 2 t = iblk1 V c 2 t := by dsimp only [dat1]; rfl
theorem after1_3 (c : Dev nD) (t : Fin (cfg1 (F := F)).N) : (dat1 V c).after 3 t = outBlk (accW (X0 V c) (X1 V c) (X2 V c) t.val 24) := by dsimp only [dat1]; rfl

/-- Each input's buffer holds its block before the body. -/
theorem before1_0 (c : Dev nD) (t : Fin (cfg1 (F := F)).N) (d) : (dat1 V c).before 0 t d = iblk1 V c 0 t :=
  before1_0_of V (dat1 V c) (A_eq1 V c 0) (after1_0 V c) t d
theorem before1_1 (c : Dev nD) (t : Fin (cfg1 (F := F)).N) (d) : (dat1 V c).before 1 t d = iblk1 V c 1 t :=
  before1_1_of V (dat1 V c) (A_eq1 V c 1) (after1_1 V c) t d
theorem before1_2 (c : Dev nD) (t : Fin (cfg1 (F := F)).N) (d) : (dat1 V c).before 2 t d = iblk1 V c 2 t :=
  before1_2_of V (dat1 V c) (A_eq1 V c 2) (after1_2 V c) t d

/-! ## The body obligation, at a generic point -/

/-- What the body is called with at a step, -/
def bodyPre1 (c : Dev nD) (t : Fin (cfg1 (F := F)).N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin (cfg1 (F := F)).N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at a step. -/
theorem sound_body1 (c : Dev nD) (hs : Sorted (X0 V c) (X1 V c)) (t : Fin (cfg1 (F := F)).N) :
    bodyPre1 V c t ⊢ wp frame (wpE (defs₀ (F := F)) 𝒱₀ (c : Thread nD τ) none) Set.univ (bodyAt1 t) (fun _ => bodyPost1 V c t) := by
  unfold bodyPre1 bodyPost1 bodyAt1
  simp only [before1_0, before1_1, before1_2]
  rw [show (dat1 V c).Φ t.succ = Φ1 V c (t.val + 1) from rfl, show (dat1 V c).Φ t.castSucc = Φ1 V c t.val from rfl,
    show (dat1 V c).owesAt () t.succ = (dat1 V c).owesAt () t.castSucc from rfl,
    after1_0, after1_1, after1_2, after1_3]
  simp only [iblk1_0, iblk1_1, iblk1_2]
  unfold Φ1
  iintro ⟨⟨Ha, Hb, Hc, ⟨%d5, H5⟩, ⟨%s, %hp, H6⟩, Hr⟩, Ho, ⟨%d0, H0⟩, ⟨%d1, H1⟩, ⟨%d2, H2⟩, ⟨%d3, H3⟩⟩
  iapply (scatter_run c (grid1.coords t) _ (hs1_0 t) _ (hs1_1 t) _ (hs1_2 t) _ (hs1_3 t) _ (Memref.isWhole_whole _) _ (Memref.isWhole_whole _)
    (X0 V c) (X1 V c) (X2 V c) hs s (by rw [coord_val (F := F) t]; exact hp) Set.univ _)
  rw [coord_val (F := F) t, ptrs_next]
  isplitl [H0]; · iexact H0
  isplitl [H1]; · iexact H1
  isplitl [H2]; · iexact H2
  isplitl [H3]; · iexists _; iexact H3
  isplitl [H5]; · iexists _; iexact H5
  isplitl [H6]; · iexact H6
  iintro ⟨H0, H1, H2, H3, H5, H6⟩
  isplitl [Ha Hb Hc H5 H6 Hr]
  · isplitl [Ha]; · iexact Ha
    isplitl [Hb]; · iexact Hb
    isplitl [Hc]; · iexact Hc
    isplitl [H5]; · iexact H5
    isplitl [H6]
    · iexists _; isplitr
      swap; · iexact H6
      ipureintro; exact fun _ => rfl
    iexact Hr
  isplitl [Ho]; · iexact Ho
  isplitl [H0]; · iexact H0
  isplitl [H1]; · iexact H1
  isplitl [H2]; · iexact H2
  iexact H3

/-- The body the pipeline calls at a step. -/
theorem defs₀_row1 (t : Fin (cfg1 (F := F)).N) :
    defs₀ (F := F) .tc (cfg1 (F := F)).body ((cfg1 (F := F)).bodyArgs t ((cfg1 (F := F)).slots t)) = bodyAt1 t := by
  unfold defs₀; rw [Defs.onTc_tc]

/-- The body's triple as the pipeline asks for it. -/
theorem body_obligation1 (c : Dev nD) (hs : Sorted (X0 V c) (X1 V c)) : BodyObligation (dat1 (F := F) V c) (defs₀ (F := F)) 𝒱₀ () Set.univ := fun t => by
  rw [bigSep_W1, bigSep_W1, defs₀_row1]
  exact triple_restated (sound_body1 V c hs t) rfl .rfl fun _ => .rfl

/-- The scatter's pipeline from its scratch at anything, -/
theorem Φ1_in (c : Dev nD) : iprop((∃ r, prngReg c r) ∗ Pipeline.scopedRest (Ix := Unit) (Name := ℕ) (U := UR sig nD τ) (Lvl := ℕ) (Val := Elt F) spec1 c) ⊢ Φ1 V c 0 := by
  rw [scopedRest1_eq]; unfold Φ1
  simp only [owns_whole]
  iintro ⟨Hr, Ha, Hb, Hc, ⟨%f5, H5⟩, ⟨%f6, H6⟩⟩
  isplitl [Ha]; · iexact Ha
  isplitl [Hb]; · iexact Hb
  isplitl [Hc]; · iexact Hc
  isplitl [H5]; · iexists f5; iexact H5
  isplitl [H6]
  · iexists f6; isplitr
    swap; · iexact H6
    ipureintro; exact fun h => absurd rfl h
  iexact Hr

/-- and back to it. -/
theorem Φ1_out (c : Dev nD) (t : ℕ) : Φ1 V c t ⊢ iprop((∃ r, prngReg c r) ∗ Pipeline.scopedRest (Ix := Unit) (Name := ℕ) (U := UR sig nD τ) (Lvl := ℕ) (Val := Elt F) spec1 c) := by
  rw [scopedRest1_eq]; unfold Φ1
  simp only [owns_whole]
  iintro ⟨Ha, Hb, Hc, ⟨%f5, H5⟩, ⟨%f6, -, H6⟩, Hr⟩
  isplitl [Hr]; · iexact Hr
  isplitl [Ha]; · iexact Ha
  isplitl [Hb]; · iexact Hb
  isplitl [Hc]; · iexact Hc
  isplitl [H5]; · iexists f5; iexact H5
  iexists f6; iexact H6

end Regions

end Cert.KernelIdeal.Scatter

end
-- ==== Proof.PI.Run.lean ====
/-
  The whole run: the decode, then the scatter. Where the rows are sorted every execution ends with the arguments
  unchanged, every counter at zero and the result at what the scatter's pipeline leaves.
-/
module

public import proofs.«01_k».proof.Proof.PI.Region

@[expose] public section

set_option maxRecDepth 16384

noncomputable section

namespace Cert.KernelIdeal.Scatter

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Scatter

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers between the pipelines -/

/-- @main's argument arrays, as TensorCore references: what the frame claim reads back. -/
abbrev argRefs : List (Ref sig .tc) := [main_arg0, main_arg1, main_arg2, main_arg3]

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- After the decode: its arrays at what it leaves, every other buffer as launched. -/
def W1 (c : Dev nD) : Valuation τ sig (Elt F) :=
  Pipeline.withArrays spec0 c (W0 m ρ c) fun w => (dat0 (V0 m ρ) c).arrAt w (cfg0 (F := F)).N
theorem W1_arr (c : Dev nD) (w : Fin (cfg0 (F := F)).W) :
    W1 m ρ c (Proc.devRef .tc (Pipeline.arrRef spec0 w)) = (dat0 (V0 m ρ) c).arrAt w (cfg0 (F := F)).N := by
  unfold W1; exact Pipeline.withArrays_arr spec0 (launch0 (F := F)).win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A buffer that is not its output keeps its contents. -/
theorem W1_of (c : Dev nD) (r : Ref sig .tc) (h : ∀ w : Fin (cfg0 (F := F)).W, Pipeline.arrRef spec0 w = r → ((cfg0 (F := F)).win w).isOut = false) :
    W1 m ρ c (Proc.devRef .tc r) = W0 m ρ c (Proc.devRef .tc r) := by
  by_cases hw : ∃ w : Fin (cfg0 (F := F)).W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Its output is no argument. -/
theorem argsIn0 : ∀ a ∈ argRefs, ∀ w : Fin 3, Pipeline.arrRef spec0 w = a → (win0 w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- The same, as the launch asks for it. -/
theorem hF0 (c : Dev nD) (w : Fin (cfg0 (F := F)).W) : (dat0 (V0 m ρ) c).arrAt w (cfg0 (F := F)).N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the scatter: its arrays at what it leaves, every other buffer as before it. -/
def W2 (c : Dev nD) : Valuation τ sig (Elt F) :=
  Pipeline.withArrays spec1 c (W1 m ρ c) fun w => (dat1 (V1 m ρ) c).arrAt w (cfg1 (F := F)).N
theorem W2_arr (c : Dev nD) (w : Fin (cfg1 (F := F)).W) :
    W2 m ρ c (Proc.devRef .tc (Pipeline.arrRef spec1 w)) = (dat1 (V1 m ρ) c).arrAt w (cfg1 (F := F)).N := by
  unfold W2; exact Pipeline.withArrays_arr spec1 (launch1 (F := F)).win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A buffer that is not its output keeps its contents. -/
theorem W2_of (c : Dev nD) (r : Ref sig .tc) (h : ∀ w : Fin (cfg1 (F := F)).W, Pipeline.arrRef spec1 w = r → ((cfg1 (F := F)).win w).isOut = false) :
    W2 m ρ c (Proc.devRef .tc r) = W1 m ρ c (Proc.devRef .tc r) := by
  by_cases hw : ∃ w : Fin (cfg1 (F := F)).W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Its output is no argument. -/
theorem argsIn1 : ∀ a ∈ argRefs, ∀ w : Fin 4, Pipeline.arrRef spec1 w = a → (win1 w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- The same, as the launch asks for it. -/
theorem hF1 (c : Dev nD) (w : Fin (cfg1 (F := F)).W) : (dat1 (V1 m ρ) c).arrAt w (cfg1 (F := F)).N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! The arguments end as launched. -/

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)
theorem W2_main_arg2 (c : Dev nD) : W2 m ρ c (Proc.devRef .tc main_arg2) = m ((c : Thread nD τ).loc main_arg2) :=
  W2_args m ρ c main_arg2 (by decide)
theorem W2_main_arg3 (c : Dev nD) : W2 m ρ c (Proc.devRef .tc main_arg3) = m ((c : Thread nD τ).loc main_arg3) :=
  W2_args m ρ c main_arg3 (by decide)

/-! ## The proof data family and the thread state -/

/-- There are no prefetched tables. -/
abbrev adm : (p : Fin 2) → (pcfgs (F := F) p).Adm := fun p => ((cfgs (F := F)) p).toPCfg_adm
/-- Both pipelines. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
/-- No core owes another anything: no level is assigned. -/
abbrev L : GSem nD τ sig → Finset Unit := fun _ => ∅
abbrev lv : GSem nD τ sig → Unit → ℕ := fun _ _ => 0
/-- What rides beside the buffers: the generator's register, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the end: every buffer at its last contents, the generator's register at some state. -/
abbrev Tₙ (c : Dev nD) : sProp 𝕄 := iprop(StableHlo.held (c : Thread nD τ) (Pipeline.ucRefs τ sig) (W2 m ρ c) ∗ ∃ r, prngReg c r)

/-! ## The regions as segments -/

-- the library states its lemmas over the pinned configuration, which unification has to unfold
set_option backward.isDefEq.respectTransparency.types false in
/-- The decode, from the launch to the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · (cfg0 (F := F)).N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library states its lemmas over the pinned configuration, which unification has to unfold
set_option backward.isDefEq.respectTransparency.types false in
/-- The scatter, from the contents after the decode to the end. -/
def reg1 (hs : ∀ c, Sorted (X0 (V1 m ρ) c) (X1 (V1 m ρ) c)) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c (hs c)).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φ1 (V1 m ρ) c 0 from rfl]
    iintro ⟨Hp, -, Hr⟩
    iapply (Φ1_in (V1 m ρ) c)
    isplitl [Hp]; · iexact Hp
    iexact Hr
  hout c := by
    rw [Pipeline.ownSems0_none, show (pdats m ρ 1 c).Φ (Fin.last _) = Φ1 (V1 m ρ) c ((cfg1 (F := F)).N) from rfl]
    iintro H
    ihave H' := (Φ1_out (V1 m ρ) c _) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · (cfg1 (F := F)).N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- The program is the two pipelines in order. -/
abbrev segs (hs : ∀ c, Sorted (X0 (V1 m ρ) c) (X1 (V1 m ρ) c)) : List (Pipeline.Seg (pcfgs (F := F)) adm (pdats m ρ) () defs₀ 𝒱₀ L lv) :=
  [ .region (reg0 m ρ),
    .region (reg1 m ρ hs) ]
/-- The same, as the launch asks for it. -/
theorem main_run (hs : ∀ c, Sorted (X0 (V1 m ρ) c) (X1 (V1 m ρ) c)) (c : Dev nD) : main (F := F) c = Pipeline.Seg.run (segs m ρ hs) := (main_chain c).trans (by chain_rfl)

/-- The TensorCore has no unscoped semaphore. -/
theorem no_unscoped : ∀ sm : SemLoc sig, sm.isScoped .tc = true := by decide

-- the launch's implicit arguments are found by unifying its conclusion, which has to unfold the configuration
set_option backward.isDefEq.respectTransparency.types false in
/-- Every run ends, the arguments unchanged, the counters at zero and the result at what the scatter's pipeline leaves. -/
theorem run (hs : ∀ c, Sorted (X0 (V1 m ρ) c) (X1 (V1 m ρ) c)) : θ_run defs (onTc (τ := τ) (main (F := F))) ⟨m, fun _ => 0, ρ⟩ (fun r => (∀ c : Dev nD,
      r.2.mem ((c.tc : Thread nD τ).loc main_v1) = (dat1 (V1 m ρ) c).arrAt 3 (cfg1 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ hs)
    (fun c Q => by rw [main_run m ρ hs c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (cfgs (F := F)) cellOf_inj) (Pipeline.launchToks (cfgs (F := F)) cellOf_inj))
    (hu₀ := by
      iintro Hu; imodintro
      isplitl [Hu]
      · iapply (show (ownU (initOf (Pipeline.cells (cfgs (F := F)) cellOf_inj) (Pipeline.launchToks (cfgs (F := F)) cellOf_inj)) : sProp 𝕄)
            ⊢ BI.own (emb₁ (initOf (Pipeline.cells (cfgs (F := F)) cellOf_inj) (Pipeline.launchToks (cfgs (F := F)) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨(h c _ (mem_uc main_v1 (by decide))).trans (W2_arr m ρ c 3),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩), funext fun g => hz g (.inr (no_unscoped g.2))⟩)

end Cert.KernelIdeal.Scatter

end
-- ==== Proof.Total.lean ====
/-
  What the result holds, as a sum over extended reals: `hit` is an entry's value where the entry is live and lies at the
  position asked for, and `total` sums it over the rows and their entries.
-/
module

public import proofs.«01_k».proof.Proof.Walk
public import Idealize.ShloMosaic.PureOps.Ideal

@[expose] public section

noncomputable section

namespace Cert.Scatter

open Idealize.ShloMosaic Idealize.ShloMosaic.ValueIdx

/-- Entry `k` of row `w`, if it is live and at position `n`. -/
def hit (x0 : Counts) (x1 : Rows (BitVec 32)) (x2 : Rows EReal) (n : ℤ) (w k : ℕ) : EReal :=
  if (k : ℤ) < cnt x0 w ∧ (cell x1 w k).toInt = n then cell x2 w k else 0

/-- The sum of the live entries at position `n`. -/
def total (x0 : Counts) (x1 : Rows (BitVec 32)) (x2 : Rows EReal) (n : ℤ) : EReal :=
  ∑ w ∈ Finset.range 24, ∑ k ∈ Finset.range 2048, hit x0 x1 x2 n w k

/-- The same sum over the array's own indices. -/
theorem total_eq (x0 : Counts) (x1 : Rows (BitVec 32)) (x2 : Rows EReal) (n : ℤ) :
    total x0 x1 x2 n = ∑ w : Fin 24, ∑ k : Fin 2048,
      if (k.val : ℤ) < (x0 (ix1 w)).toInt ∧ (x1 (ix2 w k)).toInt = n then x2 (ix2 w k) else 0 := by
  unfold total
  rw [Finset.sum_range]
  refine Finset.sum_congr rfl fun w _ => ?_
  rw [Finset.sum_range]
  refine Finset.sum_congr rfl fun k _ => ?_
  unfold hit cnt cell
  rw [row_val, col_val]

end Cert.Scatter

end
-- ==== Proof.PI.Sum.lean ====
/-
  The accumulator at the ideal instance: after the walks of grid step `t` its row `r`, lane `l` holds the sum of the live
  entries at position `(1792·t + r)·128 + l`.
-/
module

public import proofs.«01_k».proof.Proof.PI.State
public import proofs.«01_k».proof.Proof.Total
public import Idealize.ShloMosaic.Lib.Pipeline.Value
public import Idealize.ShloMosaic.PureOps.Ideal.Laws

@[expose] public section

noncomputable section

namespace Cert.KernelIdeal.Scatter

open Idealize.ShloMosaic Idealize.ShloMosaic.ValueIdx Idealize.ShloMosaic.WordCmp
open Cert.KernelIdeal Cert.KernelIdeal.Gen Cert.Scatter

/-- The kernel's row update at a lane: the value is added where the lane is the position's. -/
theorem pay4_apply (p : BitVec 32) (v : EReal) (a : FVec Ideal S1x128 .f32) (l : Fin 128) :
    k1_pay4 (F := Ideal) lanes p v a (ix2 0 l) = a (ix2 0 l) + if l.val = p.toNat % 128 then v else 0 := by
  unfold k1_pay4
  rw [shapeCast_self]
  show a (ix2 0 l) + Scalar.select (IntOp.cmpi .eq (lanes (ix2 0 l)) (Scalar.andi p 127#32)) v (Ideal.ofBits .f32 0x00000000#32) = _
  rw [Ideal.ofBits_zero_f32, cmpi_eq_eq_toNat, select_ofBool]
  have h1 : (lanes (ix2 0 l)).toNat = l.val := by
    rw [show lanes (ix2 0 l) = BitVec.ofNat 32 l.val from iota_single_apply .tc S1x128 32 1 iota_S1x128_d1_w32 _]
    exact toNat_ofNat_of_lt (by show l.val < 2 ^ 32; omega)
  have h2 : (Scalar.andi p 127#32).toNat = p.toNat % 128 := by
    show (p &&& 127#32).toNat = _
    rw [BitVec.toNat_and]
    exact Nat.and_two_pow_sub_one_eq_mod p.toNat 7
  rw [h1, h2]
  simp only [decide_eq_true_eq]

/-- The position an accumulator entry of step `t` stands for. -/
abbrev posOf (t : ℕ) (y : S1792x128.Idx) : ℤ := (((t * 1792 + (y 0).val) * 128 + (y 1).val : ℕ) : ℤ)

/-- Folding one entry of the step's range in adds it at its own position. -/
theorem put_apply (x0 : Counts) (x1 : Rows (BitVec 32)) (x2 : Rows EReal) (t w k : ℕ) (acc : FVec Ideal S1792x128 .f32)
    (hk : (k : ℤ) < cnt x0 w) (h1 : (t : ℤ) * Scatter.step ≤ (cell x1 w k).toInt) (y : S1792x128.Idx) :
    put (F := Ideal) t (cell x1 w k) (cell x2 w k) acc y = acc y + hit x0 x1 x2 (posOf t y) w k := by
  unfold Scatter.step at h1
  generalize hp : cell x1 w k = p at h1 ⊢
  have hpn : p.toInt = (p.toNat : ℤ) := toInt_eq_toNat_of_lt_half ((toInt_nonneg_iff_lt_half p).mp (by omega))
  have hy0 : (y 0).val < 1792 := (y 0).isLt
  have hy1 : (y 1).val < 128 := (y 1).isLt
  unfold put hit posOf
  rw [hp]
  by_cases hr : (y 0).val = p.toNat / 128 - t * 1792
  · rw [if_pos hr]
    refine (pay4_apply p _ _ (y 1)).trans ?_
    have ey : acc (ix2 (y 0) (y 1)) = acc y := congrArg acc (eq_ix2 y).symm
    show acc (ix2 (y 0) (y 1)) + _ = _
    rw [ey]
    congr 1
    refine if_congr ?_ rfl rfl
    rw [hpn]
    constructor
    · intro h; exact ⟨hk, by omega⟩
    · intro h; omega
  · rw [if_neg hr, if_neg (by rw [hpn]; omega), add_zero]

theorem accW_eq {x0 : Counts} {x1 : Rows (BitVec 32)} (hs : Sorted x0 x1) (x2 : Rows EReal) (t w : ℕ) (y : S1792x128.Idx) :
    accW (F := Ideal) x0 x1 x2 t w y = ∑ w' ∈ Finset.range w, ∑ k ∈ Finset.range 2048, hit x0 x1 x2 (posOf t y) w' k := by
  have hy0 : (y 0).val < 1792 := (y 0).isLt
  have hy1 : (y 1).val < 128 := (y 1).isLt
  induction w generalizing y with
  | zero =>
    unfold accW k1_pay5
    rw [shapeCast_self]
    exact Ideal.ofBits_zero_f32
  | succ w ih =>
    rw [Finset.sum_range_succ, ← ih y hy0 hy1]
    -- before the pointer nothing lies at a position of the step
    have low : ∀ k y, k < ptr x0 x1 t w → hit x0 x1 x2 (posOf t y) w k = 0 := fun k y hk => by
      have h := (below_of_lt_ptr t w k hk).2
      unfold hit
      refine if_neg fun h' => ?_
      rw [h'.2] at h
      unfold Scatter.step posOf at h
      push_cast at h; omega
    -- from the next step's pointer on nothing does
    have high : ∀ k y, ptr x0 x1 (t + 1) w ≤ k → hit x0 x1 x2 (posOf t y) w k = 0 := fun k y hk => by
      unfold hit
      refine if_neg fun h' => ?_
      have h := hs.low (t + 1) w k hk h'.1
      have hy0 : (y 0).val < 1792 := (y 0).isLt
      have hy1 : (y 1).val < 128 := (y 1).isLt
      rw [h'.2] at h
      unfold Scatter.step posOf at h
      push_cast at h; omega
    have hw := walk_induct (go x0 x1 (((t + 1 : ℕ) : ℤ) * Scatter.step) w) (fun k => put (F := Ideal) t (cell x1 w k) (cell x2 w k))
      (fun k acc => ptr x0 x1 t w ≤ k ∧ ∀ y, acc y = accW (F := Ideal) x0 x1 x2 t w y + ∑ k' ∈ Finset.range k, hit x0 x1 x2 (posOf t y) w k')
      (2048 - ptr x0 x1 t w) (ptr x0 x1 t w) (accW (F := Ideal) x0 x1 x2 t w)
      ⟨le_rfl, fun y => by rw [Finset.sum_eq_zero fun k hk => low k y (Finset.mem_range.mp hk), add_zero]⟩
      (fun k b hjk hg hb => ⟨by omega, fun y => by
        rw [put_apply x0 x1 x2 t w k b hg.1 (hs.low t w k hjk hg.1) y, hb.2 y, Finset.sum_range_succ, add_assoc]⟩)
    refine (hw.2 y).trans ?_
    congr 1
    refine Finset.sum_subset (Finset.range_subset_range.mpr (ptr_le (x0 := x0) (x1 := x1) (t + 1) w)) fun k _ hk => high k y ?_
    exact not_lt.mp fun h => hk (Finset.mem_range.mpr h)

/-- After the walks of all rows. -/
theorem accW_total {x0 : Counts} {x1 : Rows (BitVec 32)} (hs : Sorted x0 x1) (x2 : Rows EReal) (t : ℕ) (y : S1792x128.Idx) :
    accW (F := Ideal) x0 x1 x2 t 24 y = total x0 x1 x2 (posOf t y) := accW_eq hs x2 t 24 y

/-- The block of the result that step `t` writes: its row `r`, column `c` is the sum at position
    `(64·t + r)·3584 + c`, divided by 24. -/
theorem outBlk_apply {x0 : Counts} {x1 : Rows (BitVec 32)} (hs : Sorted x0 x1) (x2 : Rows EReal) (t : ℕ) (y : S64x3584.Idx) :
    outBlk (F := Ideal) (accW (F := Ideal) x0 x1 x2 t 24) y
      = Ideal.div (total x0 x1 x2 (((64 * t + (y 0).val) * 3584 + (y 1).val : ℕ) : ℤ)) (Ideal.ofBits .f32 0x41C00000#32) := by
  have hy0 : (y 0).val < 64 := (y 0).isLt
  have hy1 : (y 1).val < 3584 := (y 1).isLt
  unfold outBlk k1_pay1
  show Ideal.div (accW (F := Ideal) x0 x1 x2 t 24 _) (Ideal.ofBits .f32 0x41C00000#32) = _
  rw [accW_total hs]
  congr 2
  unfold posOf
  show (((t * 1792 + (28 * (y 0).val + (y 1).val / 128) % 1792) * 128 + (y 1).val % 128 : ℕ) : ℤ) = _
  congr 1
  omega

end Cert.KernelIdeal.Scatter

end
-- ==== Proof.PI.Value.lean ====
/-
  The two arrays the kernel writes, read whole. The decode leaves each code times its block's scale (`decode_eq`, for any
  float values); at the ideal instance the scatter leaves, at every place of the result, the sum of the live entries at
  that place's position divided by 24 (`result_eq`).
-/
module

public import proofs.«01_k».proof.Proof.PI.Region
public import proofs.«01_k».proof.Proof.PI.Sum
public import Idealize.ShloMosaic.Lib.Pipeline.ValueKit
public import Idealize.ShloMosaic.Lib.Pipeline.ReadBack

@[expose] public section

set_option maxRecDepth 16384

noncomputable section

namespace Cert.KernelIdeal.Scatter

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Scatter

/-! ## The decode -/

section Decode

variable {F : FTy → Type} [FloatOps F]

/-- Each code times its block's scale. -/
def dequant (x : FVec F S24x2048 .fp8e5m2) (s : FVec F S24x2 .f32) : FVec F S24x2048 .f32 := fun y =>
  FloatOps.mulf (FloatOps.extf .f32 bitsLt_fp8e5m2_f32 (x y))
    (s (ValueIdx.ix2 (y 0) ⟨(y 1).val / 1024, by have h : (y 1).val < 2048 := (y 1).isLt; omega⟩))

/-- The first store is the dequantised block's left half. -/
theorem left_apply (x : Vec F S24x2048 .fp8e5m2) (s : Vec F S24x2 .f32) (j : S24x1024.Idx) :
    k0_pay2 x (View.ld s r0_1) j = dequant x s (r0_2.emb j) := by
  have h1 : (j 1).val < 1024 := (j 1).isLt
  have e0 : (r0_2.emb j 0 : ℕ) = 0 + (j 0).val := ValueKit.rect_emb_unit_val (s := S24x2048) ![0, 0] S24x1024.size inb_S24x2048_S24x1024_0_0 j 0
  have e1 : (r0_2.emb j 1 : ℕ) = 0 + (j 1).val := ValueKit.rect_emb_unit_val (s := S24x2048) ![0, 0] S24x1024.size inb_S24x2048_S24x1024_0_0 j 1
  refine congrArg₂ FloatOps.mulf ?_ ?_
  · exact extractStridedSlice_apply _ (k0_pay1 x) _ _ (r0_2.emb j) (Fin.forall_fin_two.mpr ⟨e0, e1⟩)
  · refine (broadcastTo_apply (View.ld s r0_1) _ j (ValueIdx.ix2 (j 0) 0) (Fin.forall_fin_two.mpr ⟨rfl, rfl⟩)).trans (congrArg s ?_)
    funext a
    refine Fin.ext ((ValueKit.rect_emb_unit_val _ _ _ _ a).trans ?_)
    fin_cases a
    · exact e0.symm
    · show 0 = (r0_2.emb j 1 : ℕ) / 1024
      omega

/-- The second store is its right half. -/
theorem right_apply (x : Vec F S24x2048 .fp8e5m2) (s : Vec F S24x2 .f32) (j : S24x1024.Idx) :
    k0_pay3 x (View.ld s r0_3) j = dequant x s (r0_4.emb j) := by
  have h1 : (j 1).val < 1024 := (j 1).isLt
  have e0 : (r0_4.emb j 0 : ℕ) = 0 + (j 0).val := ValueKit.rect_emb_unit_val (s := S24x2048) ![0, 1024] S24x1024.size inb_S24x2048_S24x1024_0_1024 j 0
  have e1 : (r0_4.emb j 1 : ℕ) = 1024 + (j 1).val := ValueKit.rect_emb_unit_val (s := S24x2048) ![0, 1024] S24x1024.size inb_S24x2048_S24x1024_0_1024 j 1
  refine congrArg₂ FloatOps.mulf ?_ ?_
  · exact extractStridedSlice_apply _ (k0_pay1 x) _ _ (r0_4.emb j) (Fin.forall_fin_two.mpr ⟨e0, e1⟩)
  · refine (broadcastTo_apply (View.ld s r0_3) _ j (ValueIdx.ix2 (j 0) 0) (Fin.forall_fin_two.mpr ⟨rfl, rfl⟩)).trans (congrArg s ?_)
    funext a
    refine Fin.ext ((ValueKit.rect_emb_unit_val _ _ _ _ a).trans ?_)
    fin_cases a
    · exact e0.symm
    · show 1 = (r0_4.emb j 1 : ℕ) / 1024
      omega

/-- What the decode's body leaves in its output's buffer is the dequantised block. -/
theorem out0_2_eq (x : Vec F S24x2048 .fp8e5m2) (s : Vec F S24x2 .f32) : out0_2 x s = dequant x s := by
  funext y
  unfold out0_2
  rw [show View.ld x r0_0 = x from View.ld_unit_lit inb_S24x2048_S24x2048_0_0 x (by decide)]
  exact View.canon_append_of_piecesOf (Val := Elt F) (s := S24x2048) (e := .f32) (dequant x s) [] [⟨r0_4, _⟩, ⟨r0_2, _⟩]
    ⟨right_apply x s, left_apply x s, trivial⟩ y (cover0_2 _ _ y)

variable (V : (c : Dev nD) → (b : Ref sig .tc) → Buf (Elt F) ((c : Thread nD τ).loc b))

theorem iblk0_0 (c : Dev nD) (t : Fin (cfg0 (F := F)).N) : iblk0 V c 0 t = V c main_arg1 :=
  funext fun y => congrArg (V c main_arg1) (funext fun a => Fin.ext (win0_0.rect_emb_val_of_index_zero t a (by fin_cases a <;> rfl) y))
theorem iblk0_1 (c : Dev nD) (t : Fin (cfg0 (F := F)).N) : iblk0 V c 1 t = V c main_arg2 :=
  funext fun y => congrArg (V c main_arg2) (funext fun a => Fin.ext (win0_1.rect_emb_val_of_index_zero t a (by fin_cases a <;> rfl) y))

theorem decode_eq (c : Dev nD) : (dat0 V c).arrAt 2 (cfg0 (F := F)).N = dequant (V c main_arg1) (V c main_arg2) := by
  refine (dat0 V c).arrAt_eq_of_covers 2 (dequant (V c main_arg1) (V c main_arg2)) (by decide +kernel : win0_2.Covers) fun t hf y => ?_
  rw [after0_2, iblk0_0, iblk0_1, out0_2_eq]
  refine congrArg (dequant (V c main_arg1) (V c main_arg2)) (funext fun a => Fin.ext ?_)
  exact (win0_2.rect_emb_val_of_index_zero t a (by fin_cases a <;> rfl) y).symm

end Decode

/-! ## The scatter at the ideal instance -/

section Ideal

variable (V : (c : Dev nD) → (b : Ref sig .tc) → Buf (Elt Ideal) ((c : Thread nD τ).loc b))

/-- The result: at row `r`, column `c` the sum at position `3584·r + c`, divided by 24. -/
def result (x0 : Counts) (x1 : Rows (BitVec 32)) (x2 : Rows EReal) : FVec Ideal S6144x3584 .bf16 := fun i =>
  Ideal.div (total x0 x1 x2 (((i 0).val * 3584 + (i 1).val : ℕ) : ℤ)) (Ideal.ofBits .f32 0x41C00000#32)

theorem index1_3 (t : Fin grid1.N) : win1_3.index t = ![t.val, 0] :=
  (by decide +kernel : ∀ t : Fin grid1.N, win1_3.index t = ![t.val, 0]) t

theorem result_eq (c : Dev nD) (hs : Sorted (X0 V c) (X1 V c)) :
    (dat1 V c).arrAt 3 (cfg1 (F := Ideal)).N = result (X0 V c) (X1 V c) (X2 V c) := by
  refine (dat1 V c).arrAt_eq_of_covers 3 (result (X0 V c) (X1 V c) (X2 V c)) (by decide +kernel) fun t hf y => ?_
  rw [after1_3]
  have e0 : ((((cfg1 (F := Ideal)).win 3).blk t).view.emb y 0 : ℕ) = t.val * 64 + (y 0).val := by
    refine (win1_3.rect_emb_val t y 0).trans ?_
    rw [index1_3]; rfl
  have e1 : ((((cfg1 (F := Ideal)).win 3).blk t).view.emb y 1 : ℕ) = (y 1).val := by
    refine (win1_3.rect_emb_val t y 1).trans ?_
    rw [index1_3]; exact Nat.zero_add _
  refine (outBlk_apply hs (X2 V c) t.val y).trans ?_
  unfold result
  rw [e0, e1, Nat.mul_comm t.val 64]

end Ideal

end Cert.KernelIdeal.Scatter

end
-- ==== Proof.RI.Codes.lean ====
/-
  The reference's kernel: it leaves the codes in the wider format.
-/
module

public import proofs.«01_k».proof.Proof.Gen.ReferenceIdeal.Run
public import Idealize.ShloMosaic.Lib.Pipeline.ValueKit

@[expose] public section

set_option maxRecDepth 16384

noncomputable section

namespace Cert.ReferenceIdeal.Scatter

open Idealize.ShloMosaic Idealize.ShloMosaic.TcCoe Idealize.SL.Sem
open Idealize.ShloMosaic.Pipeline (Dat Cfg Window)
open Cert.ReferenceIdeal Cert.ReferenceIdeal.Gen

variable {F : FTy → Type} [FloatOps F]
variable (m : (ℓ : Loc nD τ sig) → Buf (Elt F) ℓ)

theorem iblk_0 (c : Dev nD) (t : Fin cfg0.N) : iblk m c 0 t = m ((c.tc : Thread nD τ).loc main_arg1) :=
  funext fun y => congrArg (m ((c.tc : Thread nD τ).loc main_arg1)) (funext fun a => Fin.ext (win0_0.rect_emb_val_of_index_zero t a (by fin_cases a <;> rfl) y))

theorem codes_eq (c : Dev nD) :
    Value.reg_main_v0 m c = extf .f32 (m ((c.tc : Thread nD τ).loc main_arg1) : FVec F S24x2048 .fp8e5m2) bitsLt_fp8e5m2_f32 := by
  unfold Value.reg_main_v0
  refine (dats m 0 c).arrAt_eq_of_covers 1 (extf .f32 (m ((c.tc : Thread nD τ).loc main_arg1) : FVec F S24x2048 .fp8e5m2) bitsLt_fp8e5m2_f32)
    (by decide +kernel) fun t hf y => ?_
  rw [after0_1, iblk_0]
  unfold out0_1
  rw [View.canon_cons_unit_lit _ _ _ (by decide), View.ld_unit_lit _ _ (by decide)]
  refine congrArg (extf .f32 (m ((c.tc : Thread nD τ).loc main_arg1) : FVec F S24x2048 .fp8e5m2) bitsLt_fp8e5m2_f32) (funext fun a => Fin.ext ?_)
  exact (win0_1.rect_emb_val_of_index_zero t a (by fin_cases a <;> rfl) y).symm

end Cert.ReferenceIdeal.Scatter

end
-- ==== Proof.RI.Value.lean ====
/-
  The reference's result at the ideal instance: at every place the sum of the live entries at that place's position, divided
  by 24. The reference gathers each entry's scale by its block number, masks the dead entries to zero, adds every entry at its
  position and divides.
-/
module

public import proofs.«01_k».proof.Proof.Gen.ReferenceIdeal.Read
public import proofs.«01_k».proof.Proof.Words
public import proofs.«01_k».proof.Proof.Total
public import Idealize.ShloMosaic.Lib.Routing.OpsPair
public import Idealize.ShloMosaic.PureOps.Ideal.Laws

@[expose] public section

set_option maxRecDepth 16384

noncomputable section

namespace Cert.ReferenceIdeal.Scatter

open Idealize.ShloMosaic Idealize.ShloMosaic.ValueIdx Idealize.ShloMosaic.WordCmp
open Cert.ReferenceIdeal Cert.ReferenceIdeal.Gen Cert.ReferenceIdeal.Read Cert.Scatter

/-! ## The block numbers -/

/-- The block number of entry `k` as the reference computes it: a floored quotient by 1024, two added if negative. -/
def blockWord (k : ℕ) : BitVec 32 :=
  let sign (x : BitVec 32) : BitVec 32 := if x = 0 then 0 else if x.msb then -1 else 1
  let q := IntOp.divsi .host (BitVec.ofNat 32 k) 1024#32
  let d := Scalar.select (IntOp.andi (IntOp.cmpi .ne (sign (BitVec.ofNat 32 k)) (sign 1024#32))
    (IntOp.cmpi .ne (IntOp.remsi .host (BitVec.ofNat 32 k) 1024#32) 0#32)) (IntOp.subi q 1#32) q
  Scalar.select (IntOp.cmpi .slt d 0#32) (IntOp.addi d 2#32) d

theorem blockWord_eq : ∀ k : Fin 2048, blockWord k.val = BitVec.ofNat 32 (k.val / 1024) := by decide +kernel

theorem v2_apply (i : S2048.Idx) : val_main_v2 (F := Ideal) i =
    Scalar.select (IntOp.andi (IntOp.cmpi .ne (signi (val_main_v1 (F := Ideal)) i) (signi (val_main_call0_v0 (F := Ideal)) (idx_main_call0_v5 i)))
      (IntOp.cmpi .ne (IntOp.remsi .host (BitVec.ofNat 32 (i 0).val) 1024#32) 0#32))
      (IntOp.subi (IntOp.divsi .host (BitVec.ofNat 32 (i 0).val) 1024#32) 1#32) (IntOp.divsi .host (BitVec.ofNat 32 (i 0).val) 1024#32) := by
  rw [val_main_v2_apply, val_main_call0_v11_apply, val_main_call0_v13_apply, val_main_call0_v6_apply, val_main_call0_v10_apply,
    val_main_call0_v2_apply, val_main_call0_v8_apply, val_main_call0_v5_apply, val_main_call0_v7_apply, val_main_call0_v9_apply,
    val_main_call0_v12_apply, val_main_call0_v1_apply]
  rfl

theorem v7_apply (k : Fin 2048) : val_main_v7 (F := Ideal) (ix1 k) = BitVec.ofNat 32 (k.val / 1024) := by
  rw [val_main_v7_apply, val_main_v4_apply, val_main_v6_apply, val_main_v3_apply, val_main_v5_apply, v2_apply]
  exact blockWord_eq k

/-- The gather read at an entry: the row's scale at the entry's block number, read signed and clamped. -/
theorem gather_apply (x : S24x2.Idx → EReal) (idx : IVec S2048x1 32) (y : S24x2048.Idx) :
    Host.gather gather_S24x2_S2048x1_S24x2048_0_1_n_n_1_1_241 x idx y
      = x (ix2 (y 0) ⟨min (idx (ix2 (y 1) 0)).toInt.toNat 1, by omega⟩) := by
  unfold Host.gather
  congr 1
  funext a
  refine Fin.ext ?_
  show (gather_S24x2_S2048x1_S24x2048_0_1_n_n_1_1_241).start y idx a + (gather_S24x2_S2048x1_S24x2048_0_1_n_n_1_1_241).batchCoord y a
    + (gather_S24x2_S2048x1_S24x2048_0_1_n_n_1_1_241).offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (by decide)]
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ (gather_S24x2_S2048x1_S24x2048_0_1_n_n_1_1_241).startIndexMap from List.mem_singleton.mpr rfl)]
    have hsi : (gather_S24x2_S2048x1_S24x2048_0_1_n_n_1_1_241).siIdx y
        ⟨List.idxOf (1 : Fin 2) (gather_S24x2_S2048x1_S24x2048_0_1_n_n_1_1_241).startIndexMap,
          List.idxOf_lt_length_iff.2 (List.mem_singleton.mpr rfl)⟩ = ix2 (y 1) 0 := by
      funext b; refine Fin.ext ?_
      match b with
      | ⟨0, _⟩ => rfl
      | ⟨1, _⟩ => rfl
    rw [hsi]
    rfl

/-! ## The scatter -/

/-- Update `j` lands at position `n` exactly when its index, read signed, is `n`. -/
theorem lands (idx : IVec S49152x1 32) (j : S49152.Idx) (n : Fin 22020096) :
    scatter_S22020096_S49152x1_S49152_n_0_0_1.resultIdx? j idx = some (ix1 n) ↔ (idx (ix2 (j 0) 0)).toInt = (n.val : ℤ) := by
  refine (Routing.resultIdx?_ix1 scatter_S22020096_S49152x1_S49152_n_0_0_1 j idx n).trans ?_
  have hm : (0 : Fin 1) ∈ (scatter_S22020096_S49152x1_S49152_n_0_0_1).scatterDimsToOperandDims := List.mem_singleton.2 rfl
  have hwin : (scatter_S22020096_S49152x1_S49152_n_0_0_1).window j 0 = 0 := by
    unfold ScatterDims.window
    rw [dif_neg fun h => (of_decide_eq_true (List.mem_filter.1 h).2) (List.mem_singleton.2 rfl)]
  have hstart : (scatter_S22020096_S49152x1_S49152_n_0_0_1).start j idx 0 = (idx (ix2 (j 0) 0)).toInt := by
    unfold ScatterDims.start
    rw [dif_pos hm]
    have hsi : (scatter_S22020096_S49152x1_S49152_n_0_0_1).siIdx j
        ⟨List.idxOf (0 : Fin 1) (scatter_S22020096_S49152x1_S49152_n_0_0_1).scatterDimsToOperandDims, List.idxOf_lt_length_iff.2 hm⟩
          = ix2 (j 0) 0 := by
      funext b; refine Fin.ext ?_
      match b with
      | ⟨0, _⟩ => rfl
      | ⟨1, _⟩ => rfl
    exact congrArg (fun i => (idx i).toInt) hsi
  rw [hstart, hwin]
  simp

/-- The entries in the order the scatter takes them: entry `k` of row `w` is update `2048·w + k`. -/
def entry : S49152.Idx ≃ Fin 24 × Fin 2048 where
  toFun j := (⟨(j 0).val / 2048, by have h : (j 0).val < 49152 := (j 0).isLt; omega⟩, ⟨(j 0).val % 2048, by omega⟩)
  invFun p := ix1 ⟨p.1.val * 2048 + p.2.val, by omega⟩
  left_inv j := by
    funext a
    obtain rfl : a = 0 := Subsingleton.elim _ _
    refine Fin.ext ?_
    show (j 0).val / 2048 * 2048 + (j 0).val % 2048 = (j 0).val
    omega
  right_inv p := by
    refine Prod.ext (Fin.ext ?_) (Fin.ext ?_)
    · show (p.1.val * 2048 + p.2.val) / 2048 = p.1.val
      omega
    · show (p.1.val * 2048 + p.2.val) % 2048 = p.2.val
      omega

/-- The dequantised entries: code times scale. -/
def scaled (r : Rows EReal) (s : S24x2.Idx → EReal) : Rows EReal := fun y =>
  FloatOps.mulf (F := Ideal) (φ := .f32) (r y) (s (ix2 (y 0) ⟨(y 1).val / 1024, by have h : (y 1).val < 2048 := (y 1).isLt; omega⟩))

variable (x0 : Rows (BitVec 32)) (x2 : S24x2.Idx → EReal) (x3 : Counts) (r0 : Rows EReal)

theorem v10_apply (y : S24x2048.Idx) : val_main_v10 (F := Ideal) x2 r0 y = scaled r0 x2 y := by
  rw [val_main_v10_apply]
  unfold val_main_v9
  rw [gather_apply]
  have h1 : (y 1).val < 2048 := (y 1).isLt
  have h8 : val_main_v8 (F := Ideal) (ix2 (y 1) 0) = BitVec.ofNat 32 ((y 1).val / 1024) :=
    (val_main_v8_apply _).trans ((congrArg _ (funext fun a => match a with | ⟨0, _⟩ => rfl)).trans (v7_apply (y 1)))
  unfold scaled
  refine congrArg (fun i => FloatOps.mulf (F := Ideal) (φ := .f32) (r0 y) (x2 i)) ?_
  funext a
  match a with
  | ⟨0, _⟩ => rfl
  | ⟨1, _⟩ =>
    refine Fin.ext ?_
    show min (val_main_v8 (F := Ideal) (ix2 (y 1) 0)).toInt.toNat 1 = (y 1).val / 1024
    rw [h8, toInt_ofNat_le (by omega)]
    omega

/-- An entry as the scatter receives it: dead entries are zero. -/
theorem v16_apply (w : Fin 24) (k : Fin 2048) :
    val_main_v16 (F := Ideal) x2 x3 r0 (ix2 w k) = if (k.val : ℤ) < (x3 (ix1 w)).toInt then scaled r0 x2 (ix2 w k) else 0 := by
  rw [val_main_v16_apply, v10_apply, val_main_v15_apply, val_main_v13_apply, val_main_v14_apply, val_main_v11_apply, val_main_v12_apply,
    val_main_call1_v1_apply]
  have h1 : val_main_v1 (F := Ideal) (idx_main_v11 (idx_main_v13 (ix2 w k))) = BitVec.ofNat 32 k.val := rfl
  have h2 : idx_main_v12 (idx_main_v14 (ix2 w k)) = ix1 w := funext fun a => match a with | ⟨0, _⟩ => rfl
  have h3 : val_main_call1_v0 (F := Ideal) (idx_main_call1_v1 (ix2 w k)) = (0 : EReal) := Ideal.ofBits_zero_f32
  rw [h1, h2, h3, cmpi_slt_eq, toInt_ofNat_le (by omega), select_ofBool]
  simp only [decide_eq_true_eq]

/-- A live entry's index is its position: the wrap-around of negative indices does not touch it. -/
theorem v24_apply (hs : Sorted x3 x0) (w : Fin 24) (k : Fin 2048) (hk : (k.val : ℤ) < (x3 (ix1 w)).toInt) (j : S49152.Idx)
    (hj : idx_main_v18 j = ix2 w k) : val_main_v24 (F := Ideal) x0 j = x0 (ix2 w k) := by
  have h0 : 0 ≤ (x0 (ix2 w k)).toInt := by
    have := hs.nonneg w.val k.val (by unfold cnt; rwa [row_val])
    unfold cell at this
    rwa [row_val, col_val] at this
  rw [val_main_v24_apply, val_main_v21_apply, val_main_v18_apply, hj, val_main_v20_apply, val_main_c_3_apply, cmpi_slt_eq, select_ofBool]
  rw [if_neg]
  rw [decide_eq_true_eq, BitVec.toInt_zero]
  omega

/-- The scattered sum at a position. -/
theorem v26_apply (hs : Sorted x3 x0) (n : Fin 22020096) :
    val_main_v26 (F := Ideal) x0 x2 x3 r0 (ix1 n) = total x3 x0 (scaled r0 x2) (n.val : ℤ) := by
  have h0 : val_main_v17 (F := Ideal) (ix1 n) = (0 : EReal) := by
    rw [val_main_v17_apply]; exact Ideal.ofBits_zero_f32
  rw [total_eq]
  show val_main_v17 (F := Ideal) (ix1 n) + ∑ j ∈ Finset.univ.filter (fun j => scatter_S22020096_S49152x1_S49152_n_0_0_1.resultIdx? j
    (val_main_v25 (F := Ideal) x0) = some (ix1 n)), val_main_v19 (F := Ideal) x2 x3 r0 j = _
  rw [h0, zero_add, Finset.sum_filter, ← Fintype.sum_prod_type']
  refine Fintype.sum_equiv entry _ _ fun j => ?_
  have e18 : idx_main_v18 j = ix2 (entry j).1 (entry j).2 := funext fun a => match a with | ⟨0, _⟩ => rfl | ⟨1, _⟩ => rfl
  have e19 : idx_main_v19 j = ix2 (entry j).1 (entry j).2 := funext fun a => match a with | ⟨0, _⟩ => rfl | ⟨1, _⟩ => rfl
  have e25 : idx_main_v25 (ix2 (j 0) 0) = j := funext fun a => match a with | ⟨0, _⟩ => rfl
  rw [val_main_v19_apply, e19, v16_apply]
  by_cases hk : ((entry j).2.val : ℤ) < (x3 (ix1 (entry j).1)).toInt
  · rw [if_pos hk]
    refine if_congr ?_ rfl rfl
    rw [lands, val_main_v25_apply, e25, v24_apply x0 x3 hs _ _ hk j e18]
    exact ⟨fun h => ⟨hk, h⟩, fun h => h.2⟩
  · rw [if_neg hk, ite_self, if_neg fun h => hk h.1]

/-- The reference's result. -/
theorem result_apply (hs : Sorted x3 x0) (i : S6144x3584.Idx) :
    val_main_v30 (F := Ideal) x0 x2 x3 r0 i =
      Ideal.div (total x3 x0 (scaled r0 x2) (((i 0).val * 3584 + (i 1).val : ℕ) : ℤ)) (Ideal.ofBits .f32 0x41C00000#32) := by
  have h0 : (i 0).val < 6144 := (i 0).isLt
  have h1 : (i 1).val < 3584 := (i 1).isLt
  rw [val_main_v30_apply, val_main_v29_apply]
  have e : idx_main_v29 i = ix1 ⟨(i 0).val * 3584 + (i 1).val, by omega⟩ := funext fun a => match a with | ⟨0, _⟩ => rfl
  rw [e, val_main_v28_apply, val_main_v27_apply, v26_apply x0 x2 x3 r0 hs]
  rfl

end Cert.ReferenceIdeal.Scatter

end
-- ==== Proof.lean ====
/-
  The proof of `Cert.Claim`. Both readings of the kernel end with their arguments unchanged and their counters at zero
  (`Proof/P/Run.lean`, `Proof/PI/Run.lean`), the precondition giving what the walks need (`Proof/Pre.lean`). At exact
  arithmetic the kernel's result (`Proof/PI/Value.lean`) and the reference's (`Proof/RI/Value.lean`) are the same sum.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Pre
public import proofs.«01_k».proof.Proof.P.Run
public import proofs.«01_k».proof.Proof.PI.Run
public import proofs.«01_k».proof.Proof.PI.Value
public import proofs.«01_k».proof.Proof.RI.Codes
public import proofs.«01_k».proof.Proof.RI.Value
public import Idealize.ShloMosaic.Adequacy
public import Idealize.ShloMosaic.Init

@[expose] public section

noncomputable section

namespace Cert.Proof

open Idealize.ShloMosaic Idealize.ShloMosaic.TcCoe Idealize.SL.Sem Cert.Scatter

/-! ## What the precondition gives the walks -/

theorem sorted_kernel (m : (ℓ : Loc Cert.Kernel.nD Cert.Kernel.τ Cert.Kernel.sig) → Buf (Elt Bits) ℓ) (ρ : Dev Cert.Kernel.nD → PrngReg)
    (h : Cert.Pre_Kernel (hPre_rows_sorted := Cert.Pre_rows_sorted.facts) m) (c : Dev Cert.Kernel.nD) :
    Sorted (Cert.Kernel.Scatter.X0 (Cert.Kernel.Scatter.V1 m ρ) c) (Cert.Kernel.Scatter.X1 (Cert.Kernel.Scatter.V1 m ρ) c) := by
  haveI := Cert.Pre_rows_sorted.facts
  rw [show Cert.Kernel.Scatter.X0 (Cert.Kernel.Scatter.V1 m ρ) c = m ((c.tc : Thread Cert.Kernel.nD Cert.Kernel.τ).loc Cert.Kernel.main_arg3) from
      Cert.Kernel.Scatter.W1_args m ρ c _ (by decide),
    show Cert.Kernel.Scatter.X1 (Cert.Kernel.Scatter.V1 m ρ) c = m ((c.tc : Thread Cert.Kernel.nD Cert.Kernel.τ).loc Cert.Kernel.main_arg0) from
      Cert.Kernel.Scatter.W1_args m ρ c _ (by decide)]
  exact Cert.Pre_rows_sorted.sorted _ _ _ _ (h c)

theorem args_ideal (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Scatter.X0 (Cert.KernelIdeal.Scatter.V1 m ρ) c
        = m ((c.tc : Thread Cert.KernelIdeal.nD Cert.KernelIdeal.τ).loc Cert.KernelIdeal.main_arg3)
      ∧ Cert.KernelIdeal.Scatter.X1 (Cert.KernelIdeal.Scatter.V1 m ρ) c
        = m ((c.tc : Thread Cert.KernelIdeal.nD Cert.KernelIdeal.τ).loc Cert.KernelIdeal.main_arg0) :=
  ⟨Cert.KernelIdeal.Scatter.W1_args m ρ c _ (by decide), Cert.KernelIdeal.Scatter.W1_args m ρ c _ (by decide)⟩

theorem sorted_args (m : (ℓ : Loc Cert.KernelIdeal.nD Cert.KernelIdeal.τ Cert.KernelIdeal.sig) → Buf (Elt Ideal) ℓ)
    (h : Cert.Pre_KernelIdeal (hPre_rows_sorted := Cert.Pre_rows_sorted.facts) m) (c : Dev Cert.KernelIdeal.nD) :
    Sorted (m ((c.tc : Thread Cert.KernelIdeal.nD Cert.KernelIdeal.τ).loc Cert.KernelIdeal.main_arg3))
      (m ((c.tc : Thread Cert.KernelIdeal.nD Cert.KernelIdeal.τ).loc Cert.KernelIdeal.main_arg0)) := by
  haveI := Cert.Pre_rows_sorted.facts
  exact Cert.Pre_rows_sorted.sorted _ _ _ _ (h c)

theorem sorted_ideal (m : (ℓ : Loc Cert.KernelIdeal.nD Cert.KernelIdeal.τ Cert.KernelIdeal.sig) → Buf (Elt Ideal) ℓ)
    (ρ : Dev Cert.KernelIdeal.nD → PrngReg)
    (h : Cert.Pre_KernelIdeal (hPre_rows_sorted := Cert.Pre_rows_sorted.facts) m) (c : Dev Cert.KernelIdeal.nD) :
    Sorted (Cert.KernelIdeal.Scatter.X0 (Cert.KernelIdeal.Scatter.V1 m ρ) c) (Cert.KernelIdeal.Scatter.X1 (Cert.KernelIdeal.Scatter.V1 m ρ) c) := by
  rw [(args_ideal m ρ c).1, (args_ideal m ρ c).2]
  exact sorted_args m h c

/-! ## The two results -/

/-- The kernel's result, from its arguments. -/
theorem kernel_result (m : (ℓ : Loc Cert.KernelIdeal.nD Cert.KernelIdeal.τ Cert.KernelIdeal.sig) → Buf (Elt Ideal) ℓ)
    (ρ : Dev Cert.KernelIdeal.nD → PrngReg)
    (h : Cert.Pre_KernelIdeal (hPre_rows_sorted := Cert.Pre_rows_sorted.facts) m) (c : Dev Cert.KernelIdeal.nD) :
    (Cert.KernelIdeal.Scatter.dat1 (Cert.KernelIdeal.Scatter.V1 m ρ) c).arrAt 3 (Cert.KernelIdeal.cfg1 (F := Ideal)).N
      = Cert.KernelIdeal.Scatter.result (m ((c.tc : Thread Cert.KernelIdeal.nD Cert.KernelIdeal.τ).loc Cert.KernelIdeal.main_arg3))
          (m ((c.tc : Thread Cert.KernelIdeal.nD Cert.KernelIdeal.τ).loc Cert.KernelIdeal.main_arg0))
          (Cert.KernelIdeal.Scatter.dequant (F := Ideal) (m ((c.tc : Thread Cert.KernelIdeal.nD Cert.KernelIdeal.τ).loc Cert.KernelIdeal.main_arg1))
            (m ((c.tc : Thread Cert.KernelIdeal.nD Cert.KernelIdeal.τ).loc Cert.KernelIdeal.main_arg2))) := by
  rw [Cert.KernelIdeal.Scatter.result_eq _ c (sorted_ideal m ρ h c), (args_ideal m ρ c).1, (args_ideal m ρ c).2,
    show Cert.KernelIdeal.Scatter.X2 (Cert.KernelIdeal.Scatter.V1 m ρ) c = _ from Cert.KernelIdeal.Scatter.W1_arr m ρ c 2,
    Cert.KernelIdeal.Scatter.decode_eq]

/-- The reference's result, from arguments whose rows are sorted. -/
theorem reference_result (m : (ℓ : Loc Cert.ReferenceIdeal.nD Cert.ReferenceIdeal.τ Cert.ReferenceIdeal.sig) → Buf (Elt Ideal) ℓ)
    (ρ : Dev Cert.ReferenceIdeal.nD → PrngReg)
    (hs : ∀ c : Dev Cert.ReferenceIdeal.nD,
      Sorted (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v30)
            = Cert.KernelIdeal.Scatter.result (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg0))
                (Cert.KernelIdeal.Scatter.dequant (F := Ideal)
                  (m ((c.tc : Thread Cert.ReferenceIdeal.nD Cert.ReferenceIdeal.τ).loc Cert.ReferenceIdeal.main_arg1))
                  (m ((c.tc : Thread Cert.ReferenceIdeal.nD Cert.ReferenceIdeal.τ).loc Cert.ReferenceIdeal.main_arg2)))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3)) := by
  refine θ_run_mono (Cert.ReferenceIdeal.Value.run m ρ) fun r hr c => ⟨(hr c).1.trans ?_, (hr c).2⟩
  refine Eq.trans (b := Cert.ReferenceIdeal.Read.val_main_v30 (F := Ideal)
    (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg2))
    (m ((c.tc : Thread Cert.ReferenceIdeal.nD Cert.ReferenceIdeal.τ).loc Cert.ReferenceIdeal.main_arg3))
    (Cert.ReferenceIdeal.Value.reg_main_v0 m c)) rfl ?_
  rw [Cert.ReferenceIdeal.Scatter.codes_eq]
  funext i
  exact Cert.ReferenceIdeal.Scatter.result_apply _ _ _ _ (hs c) i

/-! ## The claim -/

theorem algebraic : Cert.algebraic_KernelIdeal_ReferenceIdeal (hKernelIdeal := Cert.KernelIdeal.Gen.facts)
    (hReferenceIdeal := Cert.ReferenceIdeal.Gen.facts) (hPre_rows_sorted := Cert.Pre_rows_sorted.facts) := by
  intro m g m' g' h hm
  refine ⟨fun c => (Cert.KernelIdeal.Scatter.dat1 (Cert.KernelIdeal.Scatter.V1 m g) c).arrAt 3 (Cert.KernelIdeal.cfg1 (F := Ideal)).N,
    θ_run_mono (Cert.KernelIdeal.Scatter.run m g (sorted_ideal m g h)) fun r hr => hr.1,
    θ_run_mono (reference_result m' g' fun c => ?_) fun r hr c => ⟨(hr c).1.trans ?_, (hr c).2⟩⟩
  · rw [(hm c).1, (hm c).2.2.2]
    exact sorted_args m h c
  · refine Eq.trans ?_ (kernel_result m g h c).symm
    rw [(hm c).1, (hm c).2.1, (hm c).2.2.1, (hm c).2.2.2]

theorem claim : Cert.Claim :=
  ⟨Cert.Kernel.Gen.facts, Cert.KernelIdeal.Gen.facts, Cert.ReferenceIdeal.Gen.facts, Cert.Pre_rows_sorted.facts,
    fun m g h => θ_run_mono (Cert.Kernel.Scatter.run m g (sorted_kernel m g h)) fun r hr => ⟨fun c => (hr.1 c).2, hr.2⟩,
    fun m g h => θ_run_mono (Cert.KernelIdeal.Scatter.run m g (sorted_ideal m g h)) fun r hr => ⟨fun c => (hr.1 c).2, hr.2⟩,
    fun m g _ => Cert.ReferenceIdeal.Gen.frame m g,
    fun m g _ => Cert.ReferenceIdeal.Gen.frame m g,
    trivial,
    algebraic⟩

end Cert.Proof

end
